-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x512 : Shape := ⟨2, ![4096, 512]⟩
abbrev S448x16512 : Shape := ⟨2, ![448, 16512]⟩
abbrev S16512 : Shape := ⟨1, ![16512]⟩
abbrev S_ : Shape := ⟨0, ![]⟩

class Facts : Prop where
  bcast_S_S4096x64 : S_.BroadcastsInDim S4096x64 (![] : Fin 0 → Fin S4096x64.rank)
  bcast_S_S4096x512 : S_.BroadcastsInDim S4096x512 (![] : Fin 0 → Fin S4096x512.rank)
  bcast_S_S448x16512 : S_.BroadcastsInDim S448x16512 (![] : Fin 0 → Fin S448x16512.rank)
  bcast_S_S16512 : S_.BroadcastsInDim S16512 (![] : Fin 0 → Fin S16512.rank)

variable [Facts]

def fn {F : FTy → Type} [FloatOps F] (main_arg0 : FVec F S4096x64 .f32) (main_arg1 : FVec F S4096x512 .f32) (main_arg2 : FVec F S448x16512 .f32) (main_arg3 : FVec F S16512 .f32) (main_arg4 : IVec S_ 32) : IVec S4096x64 1 × IVec S4096x512 1 × IVec S448x16512 1 × IVec S16512 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S448x16512 .f32 := Host.absf main_arg2
  let main_cst_1 : FVec F S_ .f32 := constant S_ .f32 0x7F800000#32
  let main_v7 : FVec F S448x16512 .f32 := broadcastInDim S448x16512 ![] bcast_S_S448x16512 main_cst_1
  let main_v8 : IVec S448x16512 1 := cmpf .olt main_v6 main_v7
  let main_v9 : FVec F S16512 .f32 := Host.absf main_arg3
  let main_cst_2 : FVec F S_ .f32 := constant S_ .f32 0x7F800000#32
  let main_v10 : FVec F S16512 .f32 := broadcastInDim S16512 ![] bcast_S_S16512 main_cst_2
  let main_v11 : IVec S16512 1 := cmpf .olt main_v9 main_v10
  (main_v2, main_v5, main_v8, main_v11)
-- ==== Kernel.lean ====
abbrev S4096x64 : Shape := ⟨2, ![4096, 64]⟩
abbrev S4096x512 : Shape := ⟨2, ![4096, 512]⟩
abbrev S448x16512 : Shape := ⟨2, ![448, 16512]⟩
abbrev S16512 : Shape := ⟨1, ![16512]⟩
abbrev S_ : Shape := ⟨0, ![]⟩
abbrev S64x16512 : Shape := ⟨2, ![64, 16512]⟩
abbrev S64x128x129 : Shape := ⟨3, ![64, 128, 129]⟩
abbrev S64x129x128 : Shape := ⟨3, ![64, 129, 128]⟩
abbrev S128x129 : Shape := ⟨2, ![128, 129]⟩
abbrev S129x128 : Shape := ⟨2, ![129, 128]⟩
abbrev S4096x1 : Shape := ⟨2, ![4096, 1]⟩
abbrev S256x512 : Shape := ⟨2, ![256, 512]⟩
abbrev S256x64 : Shape := ⟨2, ![256, 64]⟩
abbrev S256x1 : Shape := ⟨2, ![256, 1]⟩
abbrev S256x448 : Shape := ⟨2, ![256, 448]⟩
abbrev S256x384 : Shape := ⟨2, ![256, 384]⟩
abbrev S256x128 : Shape := ⟨2, ![256, 128]⟩
abbrev S256x16512 : Shape := ⟨2, ![256, 16512]⟩
abbrev S1x128 : Shape := ⟨2, ![1, 128]⟩
abbrev S256 : Shape := ⟨1, ![256]⟩
abbrev S4096 : Shape := ⟨1, ![4096]⟩

abbrev nBuf : Space → Nat
  | .hbm => 11
  | .vmem => 17
  | .smem => 0
  | _ => 0

abbrev bufTy : (tb : Table) → Fin (tcTables nBuf tb) → BufTy
  | .hbm, ⟨0, _⟩ => ⟨S4096x64, .f32⟩
  | .hbm, ⟨1, _⟩ => ⟨S4096x512, .f32⟩
  | .hbm, ⟨2, _⟩ => ⟨S448x16512, .f32⟩
  | .hbm, ⟨3, _⟩ => ⟨S16512, .f32⟩
  | .hbm, ⟨4, _⟩ => ⟨S_, .i32⟩
  | .hbm, ⟨5, _⟩ => ⟨S448x16512, .f32⟩
  | .hbm, ⟨6, _⟩ => ⟨S128x129, .f32⟩
  | .hbm, ⟨7, _⟩ => ⟨S129x128, .f32⟩
  | .hbm, ⟨8, _⟩ => ⟨S4096x512, .f32⟩
  | .hbm, ⟨9, _⟩ => ⟨S4096x1, .f32⟩
  | .hbm, ⟨10, _⟩ => ⟨S4096, .f32⟩
  | .local _ .vmem, ⟨0, _⟩ => ⟨S64x16512, .f32⟩
  | .local _ .vmem, ⟨1, _⟩ => ⟨S64x16512, .f32⟩
  | .local _ .vmem, ⟨2, _⟩ => ⟨S64x16512, .f32⟩
  | .local _ .vmem, ⟨3, _⟩ => ⟨S64x16512, .f32⟩
  | .local _ .vmem, ⟨4, _⟩ => ⟨S128x129, .f32⟩
  | .local _ .vmem, ⟨5, _⟩ => ⟨S129x128, .f32⟩
  | .local _ .vmem, ⟨6, _⟩ => ⟨S256x512, .f32⟩
  | .local _ .vmem, ⟨7, _⟩ => ⟨S256x512, .f32⟩
  | .local _ .vmem, ⟨8, _⟩ => ⟨S256x64, .f32⟩
  | .local _ .vmem, ⟨9, _⟩ => ⟨S256x64, .f32⟩
  | .local _ .vmem, ⟨10, _⟩ => ⟨S129x128, .f32⟩
  | .local _ .vmem, ⟨11, _⟩ => ⟨S256x512, .f32⟩
  | .local _ .vmem, ⟨12, _⟩ => ⟨S256x512, .f32⟩
  | .local _ .vmem, ⟨13, _⟩ => ⟨S256x1, .f32⟩
  | .local _ .vmem, ⟨14, _⟩ => ⟨S256x1, .f32⟩
  | .local _ .vmem, ⟨15, _⟩ => ⟨S448x16512, .f32⟩
  | .local _ .vmem, ⟨16, _⟩ => ⟨S256x448, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc2_scratch0 : Ref sig .tc := ⟨.vmem, 15, rfl⟩
abbrev cc2_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem3_0 : DmaSem sig := 11
abbrev cc2_sem3_1 : DmaSem sig := 12
abbrev cc2_sem4_0 : DmaSem sig := 13
abbrev cc2_sem4_1 : DmaSem sig := 14

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S128x129 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S129x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S129x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S4096x64 : Shape := ⟨2, ![4096, 64]⟩
abbrev S4096x512 : Shape := ⟨2, ![4096, 512]⟩
abbrev S448x16512 : Shape := ⟨2, ![448, 16512]⟩
abbrev S16512 : Shape := ⟨1, ![16512]⟩
abbrev S_ : Shape := ⟨0, ![]⟩
abbrev S4096x128 : Shape := ⟨2, ![4096, 128]⟩
abbrev S4096x384 : Shape := ⟨2, ![4096, 384]⟩
abbrev S4096x448 : Shape := ⟨2, ![4096, 448]⟩
abbrev S4096x16512 : Shape := ⟨2, ![4096, 16512]⟩
abbrev S1x16512 : Shape := ⟨2, ![1, 16512]⟩
abbrev S4096x128x129 : Shape := ⟨3, ![4096, 128, 129]⟩
abbrev S4096x128x65 : Shape := ⟨3, ![4096, 128, 65]⟩
abbrev S4096x128x64 : Shape := ⟨3, ![4096, 128, 64]⟩
abbrev S4096x128x1 : Shape := ⟨3, ![4096, 128, 1]⟩
abbrev S1 : Shape := ⟨1, ![1]⟩
abbrev S4096x128x1x1 : Shape := ⟨4, ![4096, 128, 1, 1]⟩
abbrev S1x1x1x1 : Shape := ⟨4, ![1, 1, 1, 1]⟩
abbrev S4096 : Shape := ⟨1, ![4096]⟩

abbrev nBuf : Space → Nat
  | .hbm => 268
  | .vmem => 0
  | .smem => 0
  | _ => 0

abbrev hbmTy0_0 (i : Nat) : BufTy := match i % 128 with
  | 0 => ⟨S4096x64, .f32⟩
  | 1 => ⟨S4096x512, .f32⟩
  | 2 => ⟨S448x16512, .f32⟩
  | 3 => ⟨S16512, .f32⟩
  | 4 => ⟨S_, .i32⟩
  | 5 => ⟨S4096x128, .f32⟩
  | 6 => ⟨S4096x384, .f32⟩
  | 7 => ⟨S4096x448, .f32⟩
  | 8 => ⟨S4096x16512, .f32⟩
  | 9 => ⟨S1x16512, .f32⟩
  | 10 => ⟨S4096x16512, .f32⟩
  | 11 => ⟨S4096x16512, .f32⟩
  | 12 => ⟨S4096x128x129, .f32⟩
  | 13 => ⟨S4096x128x65, .f32⟩
  | 14 => ⟨S4096x128x64, .f32⟩
  | 15 => ⟨S_, .f32⟩
  | 16 => ⟨S4096x128, .f32⟩
  | 17 => ⟨S_, .f32⟩
  | 18 => ⟨S4096x128, .f32⟩
  | 19 => ⟨S4096x128, .f32⟩
  | 20 => ⟨S4096x128x1, .f32⟩
  | 21 => ⟨S4096x128x64, .f32⟩
  | 22 => ⟨S4096x128x64, .f32⟩
  | 23 => ⟨S4096x128x64, .f32⟩
  | 24 => ⟨S_, .f32⟩
  | 25 => ⟨S4096x128, .f32⟩
  | 26 => ⟨S4096x128x1, .f32⟩
  | 27 => ⟨S4096x128x64, .f32⟩
  | 28 => ⟨S4096x128x64, .f32⟩
  | 29 => ⟨S_, .f32⟩
  | 30 => ⟨S4096x128x64, .f32⟩
  | 31 => ⟨S4096x128x64, .f32⟩
  | 32 => ⟨S_, .f32⟩
  | 33 => ⟨S4096x128x64, .f32⟩
  | 34 => ⟨S4096x128x64, .f32⟩
  | 35 => ⟨S_, .f32⟩
  | 36 => ⟨S4096x128x65, .f32⟩
  | 37 => ⟨S4096x128x65, .f32⟩
  | 38 => ⟨S4096x128x65, .f32⟩
  | 39 => ⟨S4096x128x65, .f32⟩
  | 40 => ⟨S4096x128x65, .i1⟩
  | 41 => ⟨S4096x128x65, .f32⟩
  | 42 => ⟨S4096x128x65, .f32⟩
  | 43 => ⟨S4096x128x65, .f32⟩
  | 44 => ⟨S4096x128x65, .f32⟩
  | 45 => ⟨S4096x128x65, .f32⟩
  | 46 => ⟨S4096x128x65, .f32⟩
  | 47 => ⟨S4096x128x65, .f32⟩
  | 48 => ⟨S4096x128x65, .f32⟩
  | 49 => ⟨S_, .f32⟩
  | 50 => ⟨S4096x128x65, .f32⟩
  | 51 => ⟨S4096x128x65, .f32⟩
  | 52 => ⟨S4096x128x64, .f32⟩
  | 53 => ⟨S4096x128x64, .f32⟩
  | 54 => ⟨S4096x128x64, .f32⟩
  | 55 => ⟨S_, .f32⟩
  | 56 => ⟨S4096x128x64, .f32⟩
  | 57 => ⟨S4096x128x64, .f32⟩
  | 58 => ⟨S4096x128x64, .f32⟩
  | 59 => ⟨S_, .f32⟩
  | 60 => ⟨S4096x128, .f32⟩
  | 61 => ⟨S4096x128x1, .f32⟩
  | 62 => ⟨S4096x128x65, .f32⟩
  | 63 => ⟨S4096x128x65, .f32⟩
  | 64 => ⟨S_, .f32⟩
  | 65 => ⟨S4096x128x65, .f32⟩
  | 66 => ⟨S4096x128x65, .f32⟩
  | 67 => ⟨S_, .f32⟩
  | 68 => ⟨S4096x128x65, .f32⟩
  | 69 => ⟨S4096x128x65, .f32⟩
  | 70 => ⟨S4096x128x64, .f32⟩
  | 71 => ⟨S4096x128x64, .f32⟩
  | 72 => ⟨S4096x128x64, .f32⟩
  | 73 => ⟨S_, .f32⟩
  | 74 => ⟨S4096x128x64, .f32⟩
  | 75 => ⟨S4096x128x64, .f32⟩
  | 76 => ⟨S4096x128x64, .f32⟩
  | 77 => ⟨S_, .f32⟩
  | 78 => ⟨S_, .f32⟩
  | 79 => ⟨S4096x128x64, .f32⟩
  | 80 => ⟨S_, .i32⟩
  | 81 => ⟨S1, .i32⟩
  | 82 => ⟨S_, .f32⟩
  | 83 => ⟨S4096x128, .f32⟩
  | 84 => ⟨S4096x128x64, .f32⟩
  | 85 => ⟨S_, .f32⟩
  | 86 => ⟨S_, .f32⟩
  | 87 => ⟨S4096x128x65, .f32⟩
  | 88 => ⟨S_, .f32⟩
  | 89 => ⟨S_, .f32⟩
  | 90 => ⟨S4096x128x64, .f32⟩
  | 91 => ⟨S_, .i32⟩
  | 92 => ⟨S1, .i32⟩
  | 93 => ⟨S_, .f32⟩
  | 94 => ⟨S4096x128, .f32⟩
  | 95 => ⟨S4096x128x64, .f32⟩
  | 96 => ⟨S_, .f32⟩
  | 97 => ⟨S_, .f32⟩
  | 98 => ⟨S4096x128x65, .f32⟩
  | 99 => ⟨S_, .i32⟩
  | 100 => ⟨S1, .i32⟩
  | 101 => ⟨S_, .f32⟩
  | 102 => ⟨S4096x128, .f32⟩
  | 103 => ⟨S4096x128x65, .f32⟩
  | 104 => ⟨S4096x128x1, .f32⟩
  | 105 => ⟨S4096x128x65, .f32⟩
  | 106 => ⟨S4096x128x65, .i1⟩
  | 107 => ⟨S4096x128x65, .i32⟩
  | 108 => ⟨S_, .i32⟩
  | 109 => ⟨S4096x128, .i32⟩
  | 110 => ⟨S_, .i32⟩
  | 111 => ⟨S4096x128, .i32⟩
  | 112 => ⟨S4096x128, .i32⟩
  | 113 => ⟨S_, .i32⟩
  | 114 => ⟨S_, .i32⟩
  | 115 => ⟨S_, .i32⟩
  | 116 => ⟨S4096x128, .i32⟩
  | 117 => ⟨S4096x128, .i32⟩
  | 118 => ⟨S_, .i32⟩
  | 119 => ⟨S4096x128, .i32⟩
  | 120 => ⟨S4096x128, .i32⟩
  | 121 => ⟨S4096x128x1, .i32⟩
  | 122 => ⟨S_, .i32⟩
  | 123 => ⟨S4096x128x1, .i32⟩
  | 124 => ⟨S4096x128x1, .i1⟩
  | 125 => ⟨S_, .i32⟩
  | 126 => ⟨S4096x128x1, .i32⟩
  | 127 => ⟨S4096x128x1, .i32⟩
  | _ => ⟨S4096x64, .f32⟩

abbrev hbmTy0_1 (i : Nat) : BufTy := match i % 128 with
  | 0 => ⟨S4096x128x1, .i32⟩
  | 1 => ⟨S4096x128x1x1, .i32⟩
  | 2 => ⟨S1, .i32⟩
  | 3 => ⟨S_, .i32⟩
  | 4 => ⟨S4096x128x1x1, .i32⟩
  | 5 => ⟨S4096x128x1x1, .i1⟩
  | 6 => ⟨S1x1x1x1, .i32⟩
  | 7 => ⟨S4096x128x1x1, .i32⟩
  | 8 => ⟨S4096x128x1x1, .i1⟩
  | 9 => ⟨S4096x128x1x1, .i1⟩
  | 10 => ⟨S_, .i1⟩
  | 11 => ⟨S4096x128x1, .i1⟩
  | 12 => ⟨S4096x128x1, .f32⟩
  | 13 => ⟨S_, .f32⟩
  | 14 => ⟨S4096x128x1, .f32⟩
  | 15 => ⟨S4096x128x1, .f32⟩
  | 16 => ⟨S4096x128, .f32⟩
  | 17 => ⟨S_, .i32⟩
  | 18 => ⟨S4096x128x1, .i32⟩
  | 19 => ⟨S4096x128x1, .i1⟩
  | 20 => ⟨S_, .i32⟩
  | 21 => ⟨S4096x128x1, .i32⟩
  | 22 => ⟨S4096x128x1, .i32⟩
  | 23 => ⟨S4096x128x1, .i32⟩
  | 24 => ⟨S4096x128x1x1, .i32⟩
  | 25 => ⟨S1, .i32⟩
  | 26 => ⟨S_, .i32⟩
  | 27 => ⟨S4096x128x1x1, .i32⟩
  | 28 => ⟨S4096x128x1x1, .i1⟩
  | 29 => ⟨S1x1x1x1, .i32⟩
  | 30 => ⟨S4096x128x1x1, .i32⟩
  | 31 => ⟨S4096x128x1x1, .i1⟩
  | 32 => ⟨S4096x128x1x1, .i1⟩
  | 33 => ⟨S_, .i1⟩
  | 34 => ⟨S4096x128x1, .i1⟩
  | 35 => ⟨S4096x128x1, .f32⟩
  | 36 => ⟨S_, .f32⟩
  | 37 => ⟨S4096x128x1, .f32⟩
  | 38 => ⟨S4096x128x1, .f32⟩
  | 39 => ⟨S4096x128, .f32⟩
  | 40 => ⟨S_, .i32⟩
  | 41 => ⟨S4096x128x1, .i32⟩
  | 42 => ⟨S4096x128x1, .i1⟩
  | 43 => ⟨S_, .i32⟩
  | 44 => ⟨S4096x128x1, .i32⟩
  | 45 => ⟨S4096x128x1, .i32⟩
  | 46 => ⟨S4096x128x1, .i32⟩
  | 47 => ⟨S4096x128x1x1, .i32⟩
  | 48 => ⟨S1, .i32⟩
  | 49 => ⟨S_, .i32⟩
  | 50 => ⟨S4096x128x1x1, .i32⟩
  | 51 => ⟨S4096x128x1x1, .i1⟩
  | 52 => ⟨S1x1x1x1, .i32⟩
  | 53 => ⟨S4096x128x1x1, .i32⟩
  | 54 => ⟨S4096x128x1x1, .i1⟩
  | 55 => ⟨S4096x128x1x1, .i1⟩
  | 56 => ⟨S_, .i1⟩
  | 57 => ⟨S4096x128x1, .i1⟩
  | 58 => ⟨S4096x128x1, .f32⟩
  | 59 => ⟨S_, .f32⟩
  | 60 => ⟨S4096x128x1, .f32⟩
  | 61 => ⟨S4096x128x1, .f32⟩
  | 62 => ⟨S4096x128, .f32⟩
  | 63 => ⟨S_, .i32⟩
  | 64 => ⟨S4096x128x1, .i32⟩
  | 65 => ⟨S4096x128x1, .i1⟩
  | 66 => ⟨S_, .i32⟩
  | 67 => ⟨S4096x128x1, .i32⟩
  | 68 => ⟨S4096x128x1, .i32⟩
  | 69 => ⟨S4096x128x1, .i32⟩
  | 70 => ⟨S4096x128x1x1, .i32⟩
  | 71 => ⟨S1, .i32⟩
  | 72 => ⟨S_, .i32⟩
  | 73 => ⟨S4096x128x1x1, .i32⟩
  | 74 => ⟨S4096x128x1x1, .i1⟩
  | 75 => ⟨S1x1x1x1, .i32⟩
  | 76 => ⟨S4096x128x1x1, .i32⟩
  | 77 => ⟨S4096x128x1x1, .i1⟩
  | 78 => ⟨S4096x128x1x1, .i1⟩
  | 79 => ⟨S_, .i1⟩
  | 80 => ⟨S4096x128x1, .i1⟩
  | 81 => ⟨S4096x128x1, .f32⟩
  | 82 => ⟨S_, .f32⟩
  | 83 => ⟨S4096x128x1, .f32⟩
  | 84 => ⟨S4096x128x1, .f32⟩
  | 85 => ⟨S4096x128, .f32⟩
  | 86 => ⟨S_, .i32⟩
  | 87 => ⟨S4096x128x1, .i32⟩
  | 88 => ⟨S4096x128x1, .i32⟩
  | 89 => ⟨S_, .i32⟩
  | 90 => ⟨S4096x128x1, .i32⟩
  | 91 => ⟨S4096x128x1, .i1⟩
  | 92 => ⟨S_, .i32⟩
  | 93 => ⟨S4096x128x1, .i32⟩
  | 94 => ⟨S4096x128x1, .i32⟩
  | 95 => ⟨S4096x128x1, .i32⟩
  | 96 => ⟨S4096x128x1x1, .i32⟩
  | 97 => ⟨S1, .i32⟩
  | 98 => ⟨S_, .i32⟩
  | 99 => ⟨S4096x128x1x1, .i32⟩
  | 100 => ⟨S4096x128x1x1, .i1⟩
  | 101 => ⟨S1x1x1x1, .i32⟩
  | 102 => ⟨S4096x128x1x1, .i32⟩
  | 103 => ⟨S4096x128x1x1, .i1⟩
  | 104 => ⟨S4096x128x1x1, .i1⟩
  | 105 => ⟨S_, .i1⟩
  | 106 => ⟨S4096x128x1, .i1⟩
  | 107 => ⟨S4096x128x1, .f32⟩
  | 108 => ⟨S_, .f32⟩
  | 109 => ⟨S4096x128x1, .f32⟩
  | 110 => ⟨S4096x128x1, .f32⟩
  | 111 => ⟨S4096x128, .f32⟩
  | 112 => ⟨S4096x128, .f32⟩
  | 113 => ⟨S_, .f32⟩
  | 114 => ⟨S4096x128, .f32⟩
  | 115 => ⟨S4096x128, .f32⟩
  | 116 => ⟨S4096x128, .f32⟩
  | 117 => ⟨S4096x128, .f32⟩
  | 118 => ⟨S4096x128, .f32⟩
  | 119 => ⟨S4096x128, .f32⟩
  | 120 => ⟨S4096x128, .f32⟩
  | 121 => ⟨S4096x128, .f32⟩
  | 122 => ⟨S4096x128, .f32⟩
  | 123 => ⟨S4096x128, .f32⟩
  | 124 => ⟨S4096x128, .f32⟩
  | 125 => ⟨S_, .f32⟩
  | 126 => ⟨S_, .f32⟩
  | 127 => ⟨S_, .f32⟩
  | _ => ⟨S4096x64, .f32⟩

abbrev hbmTy0_2 (i : Nat) : BufTy := match i % 128 with
  | 0 => ⟨S4096x128, .f32⟩
  | 1 => ⟨S4096x128, .f32⟩
  | 2 => ⟨S_, .f32⟩
  | 3 => ⟨S4096x128, .f32⟩
  | 4 => ⟨S4096x128, .f32⟩
  | 5 => ⟨S4096x128, .f32⟩
  | 6 => ⟨S4096x128, .f32⟩
  | 7 => ⟨S4096x128, .f32⟩
  | 8 => ⟨S4096x128, .f32⟩
  | 9 => ⟨S4096x512, .f32⟩
  | 10 => ⟨S_, .f32⟩
  | 11 => ⟨S4096, .f32⟩
  | _ => ⟨S4096x64, .f32⟩

abbrev hbmTy (i : Nat) : BufTy := match i / 128 with
  | 0 => hbmTy0_0 i
  | 1 => hbmTy0_1 i
  | 2 => hbmTy0_2 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call1_call0_cst : Ref sig .tc := ⟨.hbm, 77, rfl⟩
abbrev main_call1_call0_v0 : Ref sig .tc := ⟨.hbm, 78, rfl⟩
abbrev main_v48 : Ref sig .tc := ⟨.hbm, 79, rfl⟩
abbrev main_c : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_call2_v0 : Ref sig .tc := ⟨.hbm, 86, rfl⟩
abbrev main_v52 : Ref sig .tc := ⟨.hbm, 87, rfl⟩
abbrev main_call3_call0_cst : Ref sig .tc := ⟨.hbm, 88, rfl⟩
abbrev main_call3_call0_v0 : Ref sig .tc := ⟨.hbm, 89, rfl⟩
abbrev main_v53 : Ref sig .tc := ⟨.hbm, 90, rfl⟩
abbrev main_c_12 : Ref sig .tc := ⟨.hbm, 91, rfl⟩
abbrev main_v54 : Ref sig .tc := ⟨.hbm, 92, rfl⟩
abbrev main_cst_13 : Ref sig .tc := ⟨.hbm, 93, rfl⟩
abbrev main_v55 : Ref sig .tc := ⟨.hbm, 94, rfl⟩
abbrev main_v56 : Ref sig .tc := ⟨.hbm, 95, rfl⟩
abbrev main_cst_14 : Ref sig .tc := ⟨.hbm, 96, rfl⟩
abbrev main_call4_v0 : Ref sig .tc := ⟨.hbm, 97, rfl⟩
abbrev main_v57 : Ref sig .tc := ⟨.hbm, 98, rfl⟩
abbrev main_c_15 : Ref sig .tc := ⟨.hbm, 99, rfl⟩
abbrev main_v58 : Ref sig .tc := ⟨.hbm, 100, rfl⟩
abbrev main_cst_16 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_17 : Ref sig .tc := ⟨.hbm, 108, rfl⟩
abbrev main_v65 : Ref sig .tc := ⟨.hbm, 109, rfl⟩
abbrev main_c_18 : Ref sig .tc := ⟨.hbm, 110, rfl⟩
abbrev main_v66 : Ref sig .tc := ⟨.hbm, 111, rfl⟩
abbrev main_v67 : Ref sig .tc := ⟨.hbm, 112, rfl⟩
abbrev main_c_19 : Ref sig .tc := ⟨.hbm, 113, rfl⟩
abbrev main_c_20 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v68 : Ref sig .tc := ⟨.hbm, 120, rfl⟩
abbrev main_v69 : Ref sig .tc := ⟨.hbm, 121, rfl⟩
abbrev main_call6_c : Ref sig .tc := ⟨.hbm, 122, rfl⟩
abbrev main_call6_v0 : Ref sig .tc := ⟨.hbm, 123, rfl⟩
abbrev main_call6_v1 : Ref sig .tc := ⟨.hbm, 124, rfl⟩
abbrev main_call6_c_0 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_v5 : Ref sig .tc := ⟨.hbm, 129, rfl⟩
abbrev main_call6_c_1 : Ref sig .tc := ⟨.hbm, 130, rfl⟩
abbrev main_call6_c_2 : Ref sig .tc := ⟨.hbm, 131, rfl⟩
abbrev main_call6_v6 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_call6_v11 : Ref sig .tc := ⟨.hbm, 137, rfl⟩
abbrev main_call6_c_3 : Ref sig .tc := ⟨.hbm, 138, rfl⟩
abbrev main_call6_v12 : Ref sig .tc := ⟨.hbm, 139, rfl⟩
abbrev main_call6_v13 : Ref sig .tc := ⟨.hbm, 140, rfl⟩
abbrev main_call6_cst : Ref sig .tc := ⟨.hbm, 141, rfl⟩
abbrev main_call6_v14 : Ref sig .tc := ⟨.hbm, 142, rfl⟩
abbrev main_v70 : Ref sig .tc := ⟨.hbm, 143, rfl⟩
abbrev main_v71 : Ref sig .tc := ⟨.hbm, 144, rfl⟩
abbrev main_call7_c : Ref sig .tc := ⟨.hbm, 145, rfl⟩
abbrev main_call7_v0 : Ref sig .tc := ⟨.hbm, 146, rfl⟩
abbrev main_call7_v1 : Ref sig .tc := ⟨.hbm, 147, rfl⟩
abbrev main_call7_c_0 : Ref sig .tc := ⟨.hbm, 148, rfl⟩
abbrev main_call7_v2 : Ref sig .tc := ⟨.hbm, 149, rfl⟩
abbrev main_call7_v3 : Ref sig .tc := ⟨.hbm, 150, rfl⟩
abbrev main_call7_v4 : Ref sig .tc := ⟨.hbm, 151, rfl⟩
abbrev main_call7_v5 : Ref sig .tc := ⟨.hbm, 152, rfl⟩
abbrev main_call7_c_1 : Ref sig .tc := ⟨.hbm, 153, rfl⟩
abbrev main_call7_c_2 : Ref sig .tc := ⟨.hbm, 154, rfl⟩
abbrev main_call7_v6 : Ref sig .tc := ⟨.hbm, 155, rfl⟩
abbrev main_call7_v7 : Ref sig .tc := ⟨.hbm, 156, rfl⟩
abbrev main_call7_v8 : Ref sig .tc := ⟨.hbm, 157, rfl⟩
abbrev main_call7_v9 : Ref sig .tc := ⟨.hbm, 158, rfl⟩
abbrev main_call7_v10 : Ref sig .tc := ⟨.hbm, 159, rfl⟩
abbrev main_call7_v11 : Ref sig .tc := ⟨.hbm, 160, rfl⟩
abbrev main_call7_c_3 : Ref sig .tc := ⟨.hbm, 161, rfl⟩
abbrev main_call7_v12 : Ref sig .tc := ⟨.hbm, 162, rfl⟩
abbrev main_call7_v13 : Ref sig .tc := ⟨.hbm, 163, rfl⟩
abbrev main_call7_cst : Ref sig .tc := ⟨.hbm, 164, rfl⟩
abbrev main_call7_v14 : Ref sig .tc := ⟨.hbm, 165, rfl⟩
abbrev main_v72 : Ref sig .tc := ⟨.hbm, 166, rfl⟩
abbrev main_v73 : Ref sig .tc := ⟨.hbm, 167, rfl⟩
abbrev main_call8_c : Ref sig .tc := ⟨.hbm, 168, rfl⟩
abbrev main_call8_v0 : Ref sig .tc := ⟨.hbm, 169, rfl⟩
abbrev main_call8_v1 : Ref sig .tc := ⟨.hbm, 170, rfl⟩
abbrev main_call8_c_0 : Ref sig .tc := ⟨.hbm, 171, rfl⟩
abbrev main_call8_v2 : Ref sig .tc := ⟨.hbm, 172, rfl⟩
abbrev main_call8_v3 : Ref sig .tc := ⟨.hbm, 173, rfl⟩
abbrev main_call8_v4 : Ref sig .tc := ⟨.hbm, 174, rfl⟩
abbrev main_call8_v5 : Ref sig .tc := ⟨.hbm, 175, rfl⟩
abbrev main_call8_c_1 : Ref sig .tc := ⟨.hbm, 176, rfl⟩
abbrev main_call8_c_2 : Ref sig .tc := ⟨.hbm, 177, rfl⟩
abbrev main_call8_v6 : Ref sig .tc := ⟨.hbm, 178, rfl⟩
abbrev main_call8_v7 : Ref sig .tc := ⟨.hbm, 179, rfl⟩
abbrev main_call8_v8 : Ref sig .tc := ⟨.hbm, 180, rfl⟩
abbrev main_call8_v9 : Ref sig .tc := ⟨.hbm, 181, rfl⟩
abbrev main_call8_v10 : Ref sig .tc := ⟨.hbm, 182, rfl⟩
abbrev main_call8_v11 : Ref sig .tc := ⟨.hbm, 183, rfl⟩
abbrev main_call8_c_3 : Ref sig .tc := ⟨.hbm, 184, rfl⟩
abbrev main_call8_v12 : Ref sig .tc := ⟨.hbm, 185, rfl⟩
abbrev main_call8_v13 : Ref sig .tc := ⟨.hbm, 186, rfl⟩
abbrev main_call8_cst : Ref sig .tc := ⟨.hbm, 187, rfl⟩
abbrev main_call8_v14 : Ref sig .tc := ⟨.hbm, 188, rfl⟩
abbrev main_v74 : Ref sig .tc := ⟨.hbm, 189, rfl⟩
abbrev main_v75 : Ref sig .tc := ⟨.hbm, 190, rfl⟩
abbrev main_call9_c : Ref sig .tc := ⟨.hbm, 191, rfl⟩
abbrev main_call9_v0 : Ref sig .tc := ⟨.hbm, 192, rfl⟩
abbrev main_call9_v1 : Ref sig .tc := ⟨.hbm, 193, rfl⟩
abbrev main_call9_c_0 : Ref sig .tc := ⟨.hbm, 194, rfl⟩
abbrev main_call9_v2 : Ref sig .tc := ⟨.hbm, 195, rfl⟩
abbrev main_call9_v3 : Ref sig .tc := ⟨.hbm, 196, rfl⟩
abbrev main_call9_v4 : Ref sig .tc := ⟨.hbm, 197, rfl⟩
abbrev main_call9_v5 : Ref sig .tc := ⟨.hbm, 198, rfl⟩
abbrev main_call9_c_1 : Ref sig .tc := ⟨.hbm, 199, rfl⟩
abbrev main_call9_c_2 : Ref sig .tc := ⟨.hbm, 200, rfl⟩
abbrev main_call9_v6 : Ref sig .tc := ⟨.hbm, 201, rfl⟩
abbrev main_call9_v7 : Ref sig .tc := ⟨.hbm, 202, rfl⟩
abbrev main_call9_v8 : Ref sig .tc := ⟨.hbm, 203, rfl⟩
abbrev main_call9_v9 : Ref sig .tc := ⟨.hbm, 204, rfl⟩
abbrev main_call9_v10 : Ref sig .tc := ⟨.hbm, 205, rfl⟩
abbrev main_call9_v11 : Ref sig .tc := ⟨.hbm, 206, rfl⟩
abbrev main_call9_c_3 : Ref sig .tc := ⟨.hbm, 207, rfl⟩
abbrev main_call9_v12 : Ref sig .tc := ⟨.hbm, 208, rfl⟩
abbrev main_call9_v13 : Ref sig .tc := ⟨.hbm, 209, rfl⟩
abbrev main_call9_cst : Ref sig .tc := ⟨.hbm, 210, rfl⟩
abbrev main_call9_v14 : Ref sig .tc := ⟨.hbm, 211, rfl⟩
abbrev main_v76 : Ref sig .tc := ⟨.hbm, 212, rfl⟩
abbrev main_v77 : Ref sig .tc := ⟨.hbm, 213, rfl⟩
abbrev main_c_21 : Ref sig .tc := ⟨.hbm, 214, rfl⟩
abbrev main_v78 : Ref sig .tc := ⟨.hbm, 215, rfl⟩
abbrev main_v79 : Ref sig .tc := ⟨.hbm, 216, rfl⟩
abbrev main_call10_c : Ref sig .tc := ⟨.hbm, 217, rfl⟩
abbrev main_call10_v0 : Ref sig .tc := ⟨.hbm, 218, rfl⟩
abbrev main_call10_v1 : Ref sig .tc := ⟨.hbm, 219, rfl⟩
abbrev main_call10_c_0 : Ref sig .tc := ⟨.hbm, 220, rfl⟩
abbrev main_call10_v2 : Ref sig .tc := ⟨.hbm, 221, rfl⟩
abbrev main_call10_v3 : Ref sig .tc := ⟨.hbm, 222, rfl⟩
abbrev main_call10_v4 : Ref sig .tc := ⟨.hbm, 223, rfl⟩
abbrev main_call10_v5 : Ref sig .tc := ⟨.hbm, 224, rfl⟩
abbrev main_call10_c_1 : Ref sig .tc := ⟨.hbm, 225, rfl⟩
abbrev main_call10_c_2 : Ref sig .tc := ⟨.hbm, 226, rfl⟩
abbrev main_call10_v6 : Ref sig .tc := ⟨.hbm, 227, rfl⟩
abbrev main_call10_v7 : Ref sig .tc := ⟨.hbm, 228, rfl⟩
abbrev main_call10_v8 : Ref sig .tc := ⟨.hbm, 229, rfl⟩
abbrev main_call10_v9 : Ref sig .tc := ⟨.hbm, 230, rfl⟩
abbrev main_call10_v10 : Ref sig .tc := ⟨.hbm, 231, rfl⟩
abbrev main_call10_v11 : Ref sig .tc := ⟨.hbm, 232, rfl⟩
abbrev main_call10_c_3 : Ref sig .tc := ⟨.hbm, 233, rfl⟩
abbrev main_call10_v12 : Ref sig .tc := ⟨.hbm, 234, rfl⟩
abbrev main_call10_v13 : Ref sig .tc := ⟨.hbm, 235, rfl⟩
abbrev main_call10_cst : Ref sig .tc := ⟨.hbm, 236, rfl⟩
abbrev main_call10_v14 : Ref sig .tc := ⟨.hbm, 237, rfl⟩
abbrev main_v80 : Ref sig .tc := ⟨.hbm, 238, rfl⟩
abbrev main_v81 : Ref sig .tc := ⟨.hbm, 239, rfl⟩
abbrev main_v82 : Ref sig .tc := ⟨.hbm, 240, rfl⟩
abbrev main_cst_22 : Ref sig .tc := ⟨.hbm, 241, rfl⟩
abbrev main_v83 : Ref sig .tc := ⟨.hbm, 242, rfl⟩
abbrev main_v84 : Ref sig .tc := ⟨.hbm, 243, rfl⟩
abbrev main_v85 : Ref sig .tc := ⟨.hbm, 244, rfl⟩
abbrev main_v86 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩
abbrev main_v91 : Ref sig .tc := ⟨.hbm, 250, rfl⟩
abbrev main_v92 : Ref sig .tc := ⟨.hbm, 251, rfl⟩
abbrev main_v93 : Ref sig .tc := ⟨.hbm, 252, rfl⟩
abbrev main_cst_23 : Ref sig .tc := ⟨.hbm, 253, rfl⟩
abbrev main_cst_24 : Ref sig .tc := ⟨.hbm, 254, rfl⟩
abbrev main_call11_v0 : Ref sig .tc := ⟨.hbm, 255, rfl⟩
abbrev main_call11_v1 : Ref sig .tc := ⟨.hbm, 256, rfl⟩
abbrev main_call11_v2 : Ref sig .tc := ⟨.hbm, 257, rfl⟩
abbrev main_call11_v3 : Ref sig .tc := ⟨.hbm, 258, rfl⟩
abbrev main_call11_v4 : Ref sig .tc := ⟨.hbm, 259, rfl⟩
abbrev main_v94 : Ref sig .tc := ⟨.hbm, 260, rfl⟩
abbrev main_v95 : Ref sig .tc := ⟨.hbm, 261, rfl⟩
abbrev main_v96 : Ref sig .tc := ⟨.hbm, 262, rfl⟩
abbrev main_v97 : Ref sig .tc := ⟨.hbm, 263, rfl⟩
abbrev main_v98 : Ref sig .tc := ⟨.hbm, 264, rfl⟩
abbrev main_v99 : Ref sig .tc := ⟨.hbm, 265, rfl⟩
abbrev main_cst_25 : Ref sig .tc := ⟨.hbm, 266, rfl⟩
abbrev main_v100 : Ref sig .tc := ⟨.hbm, 267, rfl⟩

abbrev nD : Nat := 1
abbrev τ : Topo := Topo.v7x

variable {F : FTy → Type} [FloatOps F]
-- ==== Proof.Ideal.Prep.lean ====
/- The two preparing regions, each at the contents V its region is entered from: the weight's columns permuted block by block, and the bias transposed. What each body leaves in its output buffer, the body's triple, the pipeline's proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

-- membership in a rectangle of production extents recurses once per coordinate of the long axes
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

-- the TensorCore's buffer contents when a region is entered, which the run instantiates per region
variable (V : (c : Dev nD) → (b : Ref sig .tc) → Buf (Elt F) ((c : Thread nD τ).loc b))

/-! # REGION 0 of @main: custom_call 0, `cc0__permute_w` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x16512 := Rect.unit (s := S64x16512) ![0, 0] S64x16512.size inb_S64x16512_S64x16512_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S64x16512 .f32) : Vec F S64x16512 .f32 :=
  View.canon [⟨r0_0, k0_pay1 (View.ld x0 r0_0)⟩]

/-- Its stores tile the buffer (checked by evaluation), so they cover it. -/
theorem cover0_1 (p0 : Vec F S64x16512 .f32) (y : S64x16512.Idx) :
    ∃ pc ∈ ([⟨r0_0, p0⟩] : List (View.Piece (Elt F) S64x16512 .f32)), y ∈ pc.1.set :=
  View.cover_of_tiled [⟨r0_0, p0⟩] S64x16512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x16512 .f32) (harg1 : arg1.IsWhole) (arg2 : Memref sig .tc .vmem S64x16512 .f32) (harg2 : arg2.IsWhole)
    (x0 : Vec F S64x16512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__permute_w i arg1 harg1 arg2 harg2) K := by
  simp only [cc0__permute_w_eq_skeleton]; unfold cc0__permute_w_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__permute_b` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S128x129 := Rect.unit (s := S128x129) ![0, 0] S128x129.size inb_S128x129_S128x129_0_0
abbrev r1_1 : Rect S129x128 := Rect.unit (s := S129x128) ![0, 0] S129x128.size inb_S129x128_S129x128_0_0

/-! ## What the body leaves in each output window's buffer -/

/-- Window 1's staging buffer after the body, from the input windows' blocks: its 1 store as pieces, LAST
    FIRST (Lib/Pipeline/FrameBody.lean `View.canon`; the payloads are the skeleton's). -/
def out1_1 (x0 : Vec F S128x129 .f32) : Vec F S129x128 .f32 :=
  View.canon [⟨r1_1, k1_pay1 (View.ld x0 r1_0)⟩]

/-- Its stores tile the buffer (checked by evaluation), so they cover it. -/
theorem cover1_1 (p0 : Vec F S129x128 .f32) (y : S129x128.Idx) :
    ∃ pc ∈ ([⟨r1_1, p0⟩] : List (View.Piece (Elt F) S129x128 .f32)), y ∈ pc.1.set :=
  View.cover_of_tiled [⟨r1_1, p0⟩] S129x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S128x129 .f32) (harg0 : arg0.IsWhole) (arg1 : Memref sig .tc .vmem S129x128 .f32) (harg1 : arg1.IsWhole)
    (x0 : Vec F S128x129 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__permute_b arg0 harg0 arg1 harg1) K := by
  simp only [cc1__permute_b_eq_skeleton]; unfold cc1__permute_b_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Tile

end
-- ==== Proof.Ideal.TileRuns.lean ====
/- What the runs of the spline tile's body are stated over: the windows' blocks at the contents V the region is entered from, the body's branch condition in closed form over the points, the staging and scratch memrefs, the body's own semaphore and its HBM operand. -/
module

public import proofs.«01_k».proof.Proof.Ideal.Prep
public import Idealize.ShloMosaic.Lib.WordCmp

@[expose] public section

-- membership in a rectangle of production extents recurses once per coordinate of the long axes
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

-- the TensorCore's buffer contents when a region is entered, which the run instantiates per region
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 16 = 0 :=
  (fun t => by
    have ht : t.val < 16 := Nat.lt_of_lt_of_eq t.isLt N_2
    have e0 : (grid2.coords t 0).val = t.val / 1 % 16 := Pipeline.Grid.coords_val t 0 (by decide) rfl
    simp only [cond2_0, e0]
    word_cmp
   : ∀ t : Fin grid2.N, cond2_0 (grid2.coords t) ↔ t.val % 16 = 0)

/-! ## The kernel body on any staging memrefs: a subtype the run finds -/

/-- One staging buffer of output window 3, through which its contents are stated (`View.read_writes_of_cover`: the
    choice does not matter). -/
abbrev VO2_3 : View sig .tc .vmem S256x512 .f32 := (Memref.whole cc2_stg3_0 : Memref sig .tc .vmem S256x512 .f32).view
/-- One staging buffer of output window 4, through which its contents are stated (`View.read_writes_of_cover`: the
    choice does not matter). -/
abbrev VO2_4 : View sig .tc .vmem S256x1 .f32 := (Memref.whole cc2_stg4_0 : Memref sig .tc .vmem S256x1 .f32).view
/-- Each window's current staging memref at point `t`, spelled as the pipeline passes it (`bodyAt2`), and its wholeness. -/
abbrev ms2_0 (t : Fin cfg2.N) : Memref sig .tc .vmem S256x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S129x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1 .f32 := win2_4.stage (cfg2.slots t 4)
abbrev hs2_4 (t : Fin cfg2.N) : (ms2_4 t).IsWhole := hstage2_4 ((cfg2.slots t 4).cast nbuf2_4)
/-- The scratch operands: whole scoped buffers of the kernel's own, passed beside the windows. -/
abbrev scM2_0 : Memref sig .tc .vmem S448x16512 .f32 := Memref.whole cc2_scratch0
abbrev scM2_1 : Memref sig .tc .vmem S256x448 .f32 := Memref.whole cc2_scratch1
/-- The scratch `arg7` the kernel carries between points, as a view: what it holds is stated through it. -/
abbrev VS2_0 : View sig .tc .vmem S448x16512 .f32 := scM2_0.view
/-- The operands left in HBM that the body copies into scratch itself, whole. -/
abbrev hbM2_0 : Memref sig .tc .hbm S448x16512 .f32 := Memref.whole main_v0
/-- Memref `M`'s buffer on core `c`: its contents type, and it held whole at `f` — behind this abbreviation, so that the
    run's rewriting of the goal leaves `Memref.view` intact (the form the executor reads a held buffer in). -/
abbrev HbBuf2 (c : Dev nD) {sp : Space} {S : Shape} {e : EltTy} (M : Memref sig .tc sp S e) : Type := Buf (Elt F) (M.view.loc (c : Thread nD τ))
abbrev hbPt2 (c : Dev nD) {sp : Space} {S : Shape} {e : EltTy} (M : Memref sig .tc sp S e) (f : HbBuf2 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem2 : Fin 1 → SemLoc sig := fun j => (![SemLoc.dma 15] : Fin 1 → SemLoc sig) j
theorem ownSemFacts2 : Pipeline.OwnSemFacts spec2 osem2 := by decide

/-- The HBM operand the body copies from, as a reference: unscoped, no window's array. -/
def hbms2 : Finset (Ref sig .tc) := {main_v0}
theorem hbms2_sub : hbms2 ⊆ Pipeline.restRefs sig spec2 := by decide

end Cert.KernelIdeal.Tile

end
-- ==== Proof.Ideal.TileRunA.lean ====
/- The spline tile's body at the first point, where it copies the permuted weight into scratch: the run, with the pieces its stores leave. -/
module

public import proofs.«01_k».proof.Proof.Ideal.TileRuns

@[expose] public section

-- membership in a rectangle of production extents recurses once per coordinate of the long axes
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

-- (the run's proof term is large: the definition's epilogue — `abstractNestedProofs` — walks it past the default budget)
set_option maxHeartbeats 1028000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) :
    Σ' (L3 : List (View.Piece (Elt F) S256x512 .f32)), Σ' (L4 : List (View.Piece (Elt F) S256x1 .f32)), Σ' (LS0 : List (View.Piece (Elt F) S448x16512 .f32)), { LT1 : List (View.Piece (Elt F) S256x448 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 15) 0 ∗ hbPt2 c hbM2_0 fh0 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LT1) ∗ semVal ((c : Thread nD τ), SemLoc.dma 15) 0 ∗ hbPt2 c hbM2_0 fh0 ∗ (∃ W', owes (c : Thread nD τ) 0 W')) -∗ K ⟨⟩))
          ⊢ wp frame (wpE (defs₀ (F := F)) Variants.none c none) Set.univ (cc2__spline_tile i arg1 harg1 arg2 harg2 arg3 harg3 (Memref.whole main_v0) (Memref.isWhole_whole _) arg5 harg5 arg6 harg6 arg7 harg7 arg8 harg8 cc2_scratch2) K } := by
  refine ⟨?_, ?_, ?_, ?_, fun W K => ?run⟩
  case run =>
    simp only [cc2__spline_tile_eq_skeleton]; unfold cc2__spline_tile_skel
    simp only [k2_part48_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hq0, Hh0, HW, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    isplitl [HS1]; · iexists _; iexact HS1
    isplitl [Hq0]; · iexact Hq0
    isplitl [Hh0]; · iexact Hh0
    iexists _; iexact HW

end Cert.KernelIdeal.Tile

end
-- ==== Proof.Ideal.TileRunB.lean ====
/- The spline tile's body at a later point, where the scratch already holds the permuted weight: the run, with the pieces its stores leave. -/
module

public import proofs.«01_k».proof.Proof.Ideal.TileRunA

@[expose] public section

-- membership in a rectangle of production extents recurses once per coordinate of the long axes
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

-- (the run's proof term is large: the definition's epilogue — `abstractNestedProofs` — walks it past the default budget)
set_option maxHeartbeats 1020000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) :
    Σ' (L3 : List (View.Piece (Elt F) S256x512 .f32)), Σ' (L4 : List (View.Piece (Elt F) S256x1 .f32)), Σ' (LS0 : List (View.Piece (Elt F) S448x16512 .f32)), { LT1 : List (View.Piece (Elt F) S256x448 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ owns (c : Thread nD τ) arg7 fullShare xs0 ∗ (∃ d, owns (c : Thread nD τ) arg8 fullShare d) ∗ semVal ((c : Thread nD τ), SemLoc.dma 15) 0 ∗ hbPt2 c hbM2_0 fh0 ∗ owes (c : Thread nD τ) 0 W
            ∗ (iprop(owns (c : Thread nD τ) arg1 fullShare x0 ∗ owns (c : Thread nD τ) arg2 fullShare x1 ∗ owns (c : Thread nD τ) arg3 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xs0 ∗ (∃ f, arg8.view.loc (c : Thread nD τ) ↦[arg8.view.set]{fullShare} arg8.view.writes (Elt F) f LT1) ∗ semVal ((c : Thread nD τ), SemLoc.dma 15) 0 ∗ hbPt2 c hbM2_0 fh0 ∗ (∃ W', owes (c : Thread nD τ) 0 W')) -∗ K ⟨⟩))
          ⊢ wp frame (wpE (defs₀ (F := F)) Variants.none c none) Set.univ (cc2__spline_tile i arg1 harg1 arg2 harg2 arg3 harg3 (Memref.whole main_v0) (Memref.isWhole_whole _) arg5 harg5 arg6 harg6 arg7 harg7 arg8 harg8 cc2_scratch2) K } := by
  refine ⟨?_, ?_, [], ?_, fun W K => ?run⟩
  case run =>
    simp only [cc2__spline_tile_eq_skeleton]; unfold cc2__spline_tile_skel
    simp only [k2_part48_eq_skeleton, k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%ds1, %fs1, -, HS1⟩, Hq0, Hh0, HW, Hk⟩
    obtain rfl := harg1.eq_unread hf0; obtain rfl := harg2.eq_unread hf1; obtain rfl := harg3.eq_unread hf2; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]
    · iexists _; isplitr; · ipureintro; exact harg7.read_unread _
      iexact HS0
    isplitl [HS1]; · iexists _; iexact HS1
    isplitl [Hq0]; · iexact Hq0
    isplitl [Hh0]; · iexact Hh0
    iexists _; iexact HW

end Cert.KernelIdeal.Tile

end
-- ==== Proof.Ideal.Tile.lean ====
/- The spline tile's region at the contents V it is entered from: what each case leaves in the outputs' buffers and in the carried scratch, the recursion over the points, the region's invariant, the pipeline's proof data and its body obligation. -/
module

public import proofs.«01_k».proof.Proof.Ideal.TileRunB

@[expose] public section

-- membership in a rectangle of production extents recurses once per coordinate of the long axes
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

-- the TensorCore's buffer contents when a region is entered, which the run instantiates per region
variable (V : (c : Dev nD) → (b : Ref sig .tc) → Buf (Elt F) ((c : Thread nD τ).loc b))

/-- Case A's pieces for output 3 are of SEVERAL sizes (2 stores of `S256x128`, `S256x384`): cut into blocks of `![256, 128]` they tile its block (checked by the kernel's evaluation: Lib/Ring.lean `Piece.tiledBy`), so they cover it. -/
theorem cover2_A_3 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) (y : S256x512.Idx) :
    ∃ pc ∈ (kernelRun2_A c i arg1 harg1 arg2 harg2 arg3 harg3 arg5 harg5 arg6 harg6 arg7 harg7 arg8 harg8 hc0 x0 x1 x2 fh0).1, y ∈ pc.1.set :=
  View.cover_of_tiledBy (kernelRun2_A c i arg1 harg1 arg2 harg2 arg3 harg3 arg5 harg5 arg6 harg6 arg7 harg7 arg8 harg8 hc0 x0 x1 x2 fh0).1 ![256, 128] (by sl_kernel_rfl) y

/-- What case A leaves in output 3's staging buffer: its pieces read back over junk. -/
def out2_A_3 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) : Vec F S256x512 .f32 :=
  VO2_3.read (Elt F) (VO2_3.writes (Elt F) VO2_3.junk (kernelRun2_A c i arg1 harg1 arg2 harg2 arg3 harg3 arg5 harg5 arg6 harg6 arg7 harg7 arg8 harg8 hc0 x0 x1 x2 fh0).1)

/-- Case A's pieces for output 4 tile its block (1 store of `S256x1`, checked by the kernel's evaluation: Lib/Ring.lean `Piece.tiledL`, linear in the pieces, through a loop's `@[irreducible]` trip theorem too), so they cover it. -/
theorem cover2_A_4 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) (y : S256x1.Idx) :
    ∃ pc ∈ (kernelRun2_A c i arg1 harg1 arg2 harg2 arg3 harg3 arg5 harg5 arg6 harg6 arg7 harg7 arg8 harg8 hc0 x0 x1 x2 fh0).2.1, y ∈ pc.1.set :=
  View.cover_of_tiledL (kernelRun2_A c i arg1 harg1 arg2 harg2 arg3 harg3 arg5 harg5 arg6 harg6 arg7 harg7 arg8 harg8 hc0 x0 x1 x2 fh0).2.1 S256x1.size (by sl_kernel_rfl) y

/-- What case A leaves in output 4's staging buffer: its pieces read back over junk. -/
def out2_A_4 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) : Vec F S256x1 .f32 :=
  VO2_4.read (Elt F) (VO2_4.writes (Elt F) VO2_4.junk (kernelRun2_A c i arg1 harg1 arg2 harg2 arg3 harg3 arg5 harg5 arg6 harg6 arg7 harg7 arg8 harg8 hc0 x0 x1 x2 fh0).2.1)

/-- Case A's pieces for scratch `arg7`, which the kernel carries between points, cover it: 1 piece of `S448x16512` tiling it (Lib/Ring.lean `Piece.tiledL`). -/
theorem scover2_A_0 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) (y : S448x16512.Idx) :
    ∃ pc ∈ (kernelRun2_A c i arg1 harg1 arg2 harg2 arg3 harg3 arg5 harg5 arg6 harg6 arg7 harg7 arg8 harg8 hc0 x0 x1 x2 fh0).2.2.1, y ∈ pc.1.set :=
  View.cover_of_tiledL (kernelRun2_A c i arg1 harg1 arg2 harg2 arg3 harg3 arg5 harg5 arg6 harg6 arg7 harg7 arg8 harg8 hc0 x0 x1 x2 fh0).2.2.1 S448x16512.size (by sl_kernel_rfl) y

/-- What case A leaves in scratch `arg7`: its pieces read back over junk. -/
def sout2_A_0 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) : Vec F S448x16512 .f32 :=
  VS2_0.read (Elt F) (VS2_0.writes (Elt F) VS2_0.junk (kernelRun2_A c i arg1 harg1 arg2 harg2 arg3 harg3 arg5 harg5 arg6 harg6 arg7 harg7 arg8 harg8 hc0 x0 x1 x2 fh0).2.2.1)

/-- Case B's pieces for output 3 are of SEVERAL sizes (2 stores of `S256x128`, `S256x384`): cut into blocks of `![256, 128]` they tile its block (checked by the kernel's evaluation: Lib/Ring.lean `Piece.tiledBy`), so they cover it. -/
theorem cover2_B_3 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) (y : S256x512.Idx) :
    ∃ pc ∈ (kernelRun2_B c i arg1 harg1 arg2 harg2 arg3 harg3 arg5 harg5 arg6 harg6 arg7 harg7 arg8 harg8 hc0 x0 x1 x2 xs0 fh0).1, y ∈ pc.1.set :=
  View.cover_of_tiledBy (kernelRun2_B c i arg1 harg1 arg2 harg2 arg3 harg3 arg5 harg5 arg6 harg6 arg7 harg7 arg8 harg8 hc0 x0 x1 x2 xs0 fh0).1 ![256, 128] (by sl_kernel_rfl) y

/-- What case B leaves in output 3's staging buffer: its pieces read back over junk. -/
def out2_B_3 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) : Vec F S256x512 .f32 :=
  VO2_3.read (Elt F) (VO2_3.writes (Elt F) VO2_3.junk (kernelRun2_B c i arg1 harg1 arg2 harg2 arg3 harg3 arg5 harg5 arg6 harg6 arg7 harg7 arg8 harg8 hc0 x0 x1 x2 xs0 fh0).1)

/-- Case B's pieces for output 4 tile its block (1 store of `S256x1`, checked by the kernel's evaluation: Lib/Ring.lean `Piece.tiledL`, linear in the pieces, through a loop's `@[irreducible]` trip theorem too), so they cover it. -/
theorem cover2_B_4 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) (y : S256x1.Idx) :
    ∃ pc ∈ (kernelRun2_B c i arg1 harg1 arg2 harg2 arg3 harg3 arg5 harg5 arg6 harg6 arg7 harg7 arg8 harg8 hc0 x0 x1 x2 xs0 fh0).2.1, y ∈ pc.1.set :=
  View.cover_of_tiledL (kernelRun2_B c i arg1 harg1 arg2 harg2 arg3 harg3 arg5 harg5 arg6 harg6 arg7 harg7 arg8 harg8 hc0 x0 x1 x2 xs0 fh0).2.1 S256x1.size (by sl_kernel_rfl) y

/-- What case B leaves in output 4's staging buffer: its pieces read back over junk. -/
def out2_B_4 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) : Vec F S256x1 .f32 :=
  VO2_4.read (Elt F) (VO2_4.writes (Elt F) VO2_4.junk (kernelRun2_B c i arg1 harg1 arg2 harg2 arg3 harg3 arg5 harg5 arg6 harg6 arg7 harg7 arg8 harg8 hc0 x0 x1 x2 xs0 fh0).2.1)

/-- Case B stores nothing into scratch `arg7`: it holds what the point before left. -/
def sout2_B_0 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) : Vec F S448x16512 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S256x512 .f32 × Vec F S256x1 .f32 × Vec F S448x16512 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩) (V c main_v0), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩) (V c main_v0), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) scM2_1 (Memref.isWhole_whole _) ((hcond2_0 ⟨0, hn⟩).mpr (Nat.zero_mod _)) (iblk2 V c 0 ⟨0, hn⟩) (iblk2 V c 1 ⟨0, hn⟩) (iblk2 V c 2 ⟨0, hn⟩) (V c main_v0))
  | n + 1, hn =>
    if h0 : (n + 1) % 16 = 0 then
      (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩) (V c main_v0), out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩) (V c main_v0), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) ((hcond2_0 ⟨n + 1, hn⟩).mpr h0) (iblk2 V c 0 ⟨n + 1, hn⟩) (iblk2 V c 1 ⟨n + 1, hn⟩) (iblk2 V c 2 ⟨n + 1, hn⟩) (V c main_v0))
    else
      (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2 (V c main_v0), out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2 (V c main_v0), sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) scM2_1 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.2 (V c main_v0))

/-- `outsAt2` at a point of case A: that case's contents. -/
theorem outsAt2_A (c : Dev nD) (t : Fin cfg2.N) (h0 : t.val % 16 = 0) :
    outsAt2 V c t.val t.isLt = (out2_A_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (V c main_v0), out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (V c main_v0), sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) ((hcond2_0 t).mpr h0) (iblk2 V c 0 t) (iblk2 V c 1 t) (iblk2 V c 2 t) (V c main_v0)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 16 = 0) :
    outsAt2 V c t.val t.isLt = (out2_B_3 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2.2 (V c main_v0), out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2.2 (V c main_v0), sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)).2.2 (V c main_v0)) := by
  obtain ⟨n, hn⟩ := t
  cases n with
  | zero => exact (by exfalso; (try dsimp only at h0); exact absurd (Nat.zero_mod _) h0)
  | succ n => exact (dif_neg h0).trans rfl

/-- The scoped buffers of the two preparing regions and the generator register, which the body never touches. -/
def G6 (c : Dev nD) : sProp 𝕄 :=
  iprop((∃ r, prngReg c r)
    ∗ (∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f))

/-- The region invariant before the first point: each scratch at anything, what the body never touches, its own
    semaphore at zero, the HBM operand at its entry contents. -/
def PhiD (c : Dev nD) : sProp 𝕄 :=
  iprop(iprop((∃ d, owns (c : Thread nD τ) scM2_0 fullShare d) ∗ (∃ d, owns (c : Thread nD τ) scM2_1 fullShare d)) ∗ G6 c
    ∗ iprop(semVal ((c : Thread nD τ), SemLoc.dma 15) 0) ∗ iprop(hbPt2 c hbM2_0 (V c main_v0)))

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt2`'s scratch components), the others at anything. -/
def PhiS (c : Dev nD) : (n : ℕ) → n ≤ cfg2.N → sProp 𝕄
  | 0, _ => PhiD V c
  | n + 1, hn => iprop(iprop(owns (c : Thread nD τ) scM2_0 fullShare ((outsAt2 V c n hn).2.2) ∗ (∃ d, owns (c : Thread nD τ) scM2_1 fullShare d)) ∗ G6 c ∗ iprop(semVal ((c : Thread nD τ), SemLoc.dma 15) 0) ∗ iprop(hbPt2 c hbM2_0 (V c main_v0)))

theorem PhiS_zero (c : Dev nD) (n : ℕ) (h : n ≤ cfg2.N) (hz : n = 0) : PhiS V c n h = PhiD V c := by
  subst hz; rfl

/-- After point `n` (before point `n + 1`): the carried scratch at that point's contents. -/
theorem PhiS_succ (c : Dev nD) (n : ℕ) (hn : n < cfg2.N) :
    PhiS V c (n + 1) hn = iprop(iprop(owns (c : Thread nD τ) scM2_0 fullShare ((outsAt2 V c n hn).2.2) ∗ (∃ d, owns (c : Thread nD τ) scM2_1 fullShare d)) ∗ G6 c ∗ iprop(semVal ((c : Thread nD τ), SemLoc.dma 15) 0) ∗ iprop(hbPt2 c hbM2_0 (V c main_v0))) := rfl

/-- Before a point that is not the first: the carried scratch at what the point before left. -/
theorem PhiS_pos (c : Dev nD) (n : ℕ) (h : n ≤ cfg2.N) (hz : n ≠ 0) :
    PhiS V c n h = iprop(iprop(owns (c : Thread nD τ) scM2_0 fullShare ((outsAt2 V c (n - 1) (by omega)).2.2) ∗ (∃ d, owns (c : Thread nD τ) scM2_1 fullShare d)) ∗ G6 c ∗ iprop(semVal ((c : Thread nD τ), SemLoc.dma 15) 0) ∗ iprop(hbPt2 c hbM2_0 (V c main_v0))) := by
  cases n with
  | zero => exact absurd rfl hz
  | succ n => rfl

/-! ## The pipeline's proof data -/

/-- The proof data of the one pipeline on core `c`: the arrays as the region finds them (`V`); after the body at
    point `t` each input's buffer at its block and the outputs' at `outsAt2`; the invariant
    (Lib/Pipeline/Frame.lean `ΦD`: the scoped rest, the generator register, the own cells at zero, the HBM operands at
    their launch contents); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS_castSucc (c : Dev nD) (t : Fin cfg2.N) :
    (dat2 V c).Φ t.castSucc = PhiS V c t.val (Nat.le_of_lt t.isLt) := by
  dsimp only [dat2]; exact Pipeline.Dat.Φ_castSucc (PhiS V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2.1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 3200000 in
/-- The body at any point: the inputs' memrefs hold their blocks (`before2_W`); the closed forms say which case the point is in (`by_cases`), an output the case reads before covering holds what the point before left (`before2_W_κ`); so the
    run applies; the invariant hands the body the carried scratch at what the point before left (`PhiS_pos`; at anything at the first point, `PhiS_zero`, the rest of `ΦD` opened by `PhiD`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = PhiS V c (t.val + 1) t.isLt from rfl, PhiS_succ,
    after2_0, after2_1, after2_2, after2_3, after2_4]
  unfold Dat.owesAt Pipeline.owesWithin
  rw [show (dat2 V c).owed t.castSucc = 0 from rfl, show (dat2 V c).owed t.succ = 0 from rfl]
  have hN : t.val < 16 := lt_of_lt_of_eq t.isLt (show cfg2.N = 16 from N_2)
  by_cases h0 : t.val % 16 = 0
  · by_cases hz : t.val = 0
    · rw [PhiS_castSucc V c t, PhiS_zero V c _ _ hz]; unfold PhiD
      rw [outsAt2_A V c t h0]
      unfold out2_A_3 out2_A_4 sout2_A_0; (try dsimp only)
      iintro ⟨⟨⟨HS0, HS1⟩, Hg, Hq0, Hh0⟩, ⟨%W, -, HW⟩, ⟨%d0, H0⟩, ⟨%d1, H1⟩, ⟨%d2, H2⟩, ⟨%d3, H3⟩, ⟨%d4, H4⟩⟩
      iapply ((kernelRun2_A c (grid2.coords t) _ _ _ _ _ _ _ _ _ _ _ _ _ _ ((hcond2_0 t).mpr h0) (iblk2 V c 0 t) (iblk2 V c 1 t) (iblk2 V c 2 t) (V c main_v0)).2.2.2.2 W _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [Hq0]; · iexact Hq0
      isplitl [Hh0]; · iexact Hh0
      isplitl [HW]; · iexact HW
      iintro ⟨H0, H1, H2, ⟨%e3, H3⟩, ⟨%e4, H4⟩, ⟨%es0, HS0⟩, ⟨%fT1, HS1⟩, Hq0, Hh0, ⟨%W', HW'⟩⟩
      isplitl [HS0 HS1 Hg Hq0 Hh0]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _)
          iexists _; unfold owns; iexists _; isplitr
          swap; · iexact HS1
          ipureintro; rfl
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_A_3 c _ _ _ _ _ _ _ _ _ _ _ _ _ _ _ _ _ _ _ _)
      unfold owns; iexists _; isplitr
      swap; · iexact H4
      ipureintro; exact View.read_writes_of_cover _ _ _ _ _ (cover2_A_4 c _ _ _ _ _ _ _ _ _ _ _ _ _ _ _ _ _ _ _ _)
    · exfalso; have hN : t.val < 16 := lt_of_lt_of_eq t.isLt (show cfg2.N = 16 from N_2); omega
  · by_cases hz : t.val = 0
    · exfalso; have hN : t.val < 16 := lt_of_lt_of_eq t.isLt (show cfg2.N = 16 from N_2); omega
    · rw [PhiS_castSucc V c t, PhiS_pos V c _ _ hz]
      rw [outsAt2_B V c t h0]
      unfold out2_B_3 out2_B_4 sout2_B_0; (try dsimp only)
      iintro ⟨⟨⟨HS0, HS1⟩, Hg, Hq0, Hh0⟩, ⟨%W, -, HW⟩, ⟨%d0, H0⟩, ⟨%d1, H1⟩, ⟨%d2, H2⟩, ⟨%d3, H3⟩, ⟨%d4, H4⟩⟩
      iapply ((kernelRun2_B c (grid2.coords t) _ _ _ _ _ _ _ _ _ _ _ _ _ _ (fun h => h0 ((hcond2_0 t).mp h)) (iblk2 V c 0 t) (iblk2 V c 1 t) (iblk2 V c 2 t) _ (V c main_v0)).2.2.2.2 W _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [Hq0]; · iexact Hq0
      isplitl [Hh0]; · iexact Hh0
      isplitl [HW]; · iexact HW
      iintro ⟨H0, H1, H2, ⟨%e3, H3⟩, ⟨%e4, H4⟩, HS0, ⟨%fT1, HS1⟩, Hq0, Hh0, ⟨%W', HW'⟩⟩
      isplitl [HS0 HS1 Hg Hq0 Hh0]
      · isplitl [HS0 HS1]
        · isplitl [HS0]; · iexact HS0
          iexists _; unfold owns; iexists _; isplitr
          swap; · iexact HS1
          ipureintro; rfl
        isplitl [Hg]
        · iexact Hg
        isplitl [Hq0]
        · iexact Hq0
        iexact Hh0
      isplitl [HW']
      · iexists W'; isplitr; · ipureintro; exact fun _ _ => Or.inl trivial
        iexact HW'
      isplitl [H0]; · iexact H0
      isplitl [H1]; · iexact H1
      isplitl [H2]; · iexact H2
      isplitl [H3]
      · unfold owns; iexists _; isplitr
        swap; · iexact H3
        ipureintro; exact View.read_writes_of_cover _ _ _ _ _ (cover2_B_3 c _ _ _ _ _ _ _ _ _ _ _ _ _ _ _ _ _ _ _ _ _)
      unfold owns; iexists _; isplitr
      swap; · iexact H4
      ipureintro; exact View.read_writes_of_cover _ _ _ _ _ (cover2_B_4 c _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- After the last point the invariant gives back what it took: the carried scratch's contents are forgotten. -/
theorem Phi_last (c : Dev nD) : (dat2 V c).Φ (Fin.last cfg2.N) ⊢ PhiD V c := by
  have ht : (Fin.last cfg2.N).val ≠ 0 := by rw [Fin.val_last]; have : cfg2.N = 16 := N_2; omega
  rw [show (dat2 V c).Φ (Fin.last cfg2.N) = PhiS V c (Fin.last cfg2.N).val (Nat.le_of_lt_succ (Fin.last cfg2.N).isLt) from rfl, PhiS_pos V c _ _ ht]
  unfold PhiD
  iintro ⟨⟨HS0, HS1⟩, Hg, Hq0, Hh0⟩
  isplitl [HS0 HS1]
  · isplitl [HS0]
    · iexists _; iexact HS0
    iexact HS1
  isplitl [Hg]; · iexact Hg
  isplitl [Hq0]
  · iexact Hq0
  iexact Hh0

end Cert.KernelIdeal.Tile

end
-- ==== Proof.Ideal.Whole.lean ====
/- @main whole: its five segments from the launch to the return, the buffers' contents at each boundary, the run and the frame. -/
module

public import proofs.«01_k».proof.Proof.Ideal.Tile
public import Idealize.ShloMosaic.Lib.Pipeline.Frame
public import Idealize.ShloMosaic.Lib.Pipeline.Regions
public import Idealize.ShloMosaic.Lib.Pipeline.RegionsLoop
public import Idealize.ShloMosaic.Lib.Pipeline.FrameSuffix

@[expose] public section

-- membership in a rectangle of production extents recurses once per coordinate of the long axes
set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main's argument arrays, as TensorCore references. -/
abbrev argRefs : List (Ref sig .tc) := [main_arg0, main_arg1, main_arg2, main_arg3, main_arg4]

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v4]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3` (@main's end). -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)
theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 2's other unscoped buffers than the HBM operand its body reads. -/
abbrev rest2 (c : Dev nD) : sProp 𝕄 :=
  bigSep (Pipeline.restRefs sig spec2 \ hbms2) fun b => ((c : Thread nD τ).loc b) ↦{fullShare} V3 m ρ c b

/-- The HBM operand's points-to, listed. -/
theorem hbms2_eq (c : Dev nD) :
    (bigSep hbms2 (fun b => ((c : Thread nD τ).loc b) ↦{fullShare} V3 m ρ c b) : sProp 𝕄) = iprop(hbPt2 c hbM2_0 (V3 m ρ c main_v0)) := by
  rw [BI.bigSep_eq_bigSepL_of_eq [main_v0] (by decide) (by decide)]; rfl

/-- The body's own semaphore at zero, listed. -/
theorem ownSems2_eq (c : Dev nD) :
    (Pipeline.ownSems0 (Ix := Unit) (Name := ℕ) (U := Pipeline.UD sig nD τ) (Lvl := ℕ) (Val := Elt F) (τ := τ) osem2 c : sProp 𝕄)
      = iprop(semVal ((c : Thread nD τ), SemLoc.dma 15) 0) := by
  rw [Pipeline.ownSems0_eq_of_list c osem2 [0] (by decide) (by decide)]; rfl

set_option backward.isDefEq.respectTransparency.types false in
/-- REGION 2 (custom_call 2) over the thread state: entered from every unscoped buffer at `W3`, left at `W4`. Its body's
    own semaphore and its HBM operand go into the invariant beside the generator register, and come back. -/
def reg2 : Pipeline.RegionSeg (pcfgs (F := F)) adm (pdats m ρ) () defs₀ 𝒱₀ L lv 2 where
  win := launch2.win.to₀
  block_pos := launch2.block_pos
  stage_whole := launch2.stage_whole
  K := Fin 1
  osem := osem2
  ho := ownSemFacts2
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop((∃ r, prngReg c r) ∗ semVal ((c : Thread nD τ), SemLoc.dma 15) 0 ∗ hbPt2 c hbM2_0 (V3 m ρ c main_v0))
  Y c := iprop((∃ r, prngReg c r) ∗ hbPt2 c hbM2_0 (V3 m ρ c main_v0))
  Z c := rest2 m ρ c
  hentry c := by
    rw [ownSems2_eq]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    have hrest := Pipeline.unscopedRest_sdiff (τ := τ) (Val := Elt F) spec2 hbms2 hbms2_sub c (V3 m ρ c)
    rw [hbms2_eq] at hrest
    have hr1 : Pipeline.unscopedRest (Ix := Unit) (Name := ℕ) (U := Pipeline.UD sig nD τ) (Lvl := ℕ) spec2 c (V3 m ρ c) ⊢ iprop(hbPt2 c hbM2_0 (V3 m ρ c main_v0) ∗ rest2 m ρ c) := by rw [hrest]
    have hr2 : iprop(hbPt2 c hbM2_0 (V3 m ρ c main_v0) ∗ rest2 m ρ c) ⊢ Pipeline.unscopedRest (Ix := Unit) (Name := ℕ) (U := Pipeline.UD sig nD τ) (Lvl := ℕ) spec2 c (V3 m ρ c) := by rw [hrest]
    iintro ⟨⟨Hub, Hp, HO⟩, Hq, -⟩
    ihave H := hsplit $$ Hub
    icases H with ⟨Ha, Hrest⟩
    ihave Hr2 := hr1 $$ Hrest
    icases Hr2 with ⟨Hh, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hq Hh]
    · isplitl [Hp]; · iexact Hp
      isplitl [Hq]; · iexact Hq
      iexact Hh
    iexact Hrest
  hin c := by
    rw [show (pdats m ρ 2 c).Φ 0 = PhiD (V3 m ρ) c from rfl, show Pipeline.scopedRest (Ix := Unit) (Name := ℕ) (U := Pipeline.UD sig nD τ) (Lvl := ℕ) (Val := Elt F) ((pcfgs (F := F)) 2).spec c = Pipeline.scopedRest spec2 c from rfl, scopedRest2_eq]
    unfold PhiD G6; simp only [scM2_0, scM2_1, owns_whole]
    iintro ⟨⟨Hp, Hq, Hh⟩, -, ⟨H0, H1, H2, H3, H4, H5, HS0, HS1⟩⟩
    isplitl [HS0 HS1]
    · isplitl [HS0]; · iexact HS0
      iexact HS1
    isplitl [Hp H0 H1 H2 H3 H4 H5]
    · isplitl [Hp]; · iexact Hp
      isplitl [H0]; · iexact H0
      isplitl [H1]; · iexact H1
      isplitl [H2]; · iexact H2
      isplitl [H3]; · iexact H3
      isplitl [H4]; · iexact H4
      iexact H5
    isplitl [Hq]; · iexact Hq
    iexact Hh
  hout c := by
    rw [ownSems2_eq]
    refine (Phi_last (V3 m ρ) c).trans ?_
    rw [show Pipeline.scopedRest (Ix := Unit) (Name := ℕ) (U := Pipeline.UD sig nD τ) (Lvl := ℕ) (Val := Elt F) ((pcfgs (F := F)) 2).spec c = Pipeline.scopedRest spec2 c from rfl, scopedRest2_eq]
    unfold PhiD G6; simp only [scM2_0, scM2_1, owns_whole]
    iintro ⟨⟨HS0, HS1⟩, ⟨Hp, H0, H1, H2, H3, H4, H5⟩, Hq, Hh⟩
    isplitl [Hp Hh]
    · isplitl [Hp]; · iexact Hp
      iexact Hh
    isplitl [Hq]; · iexact Hq
    isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    have hrest := Pipeline.unscopedRest_sdiff (τ := τ) (Val := Elt F) spec2 hbms2 hbms2_sub c (V3 m ρ c)
    rw [hbms2_eq] at hrest
    have hr1 : Pipeline.unscopedRest (Ix := Unit) (Name := ℕ) (U := Pipeline.UD sig nD τ) (Lvl := ℕ) spec2 c (V3 m ρ c) ⊢ iprop(hbPt2 c hbM2_0 (V3 m ρ c main_v0) ∗ rest2 m ρ c) := by rw [hrest]
    have hr2 : iprop(hbPt2 c hbM2_0 (V3 m ρ c main_v0) ∗ rest2 m ρ c) ⊢ Pipeline.unscopedRest (Ix := Unit) (Name := ℕ) (U := Pipeline.UD sig nD τ) (Lvl := ℕ) spec2 c (V3 m ρ c) := by rw [hrest]
    iintro ⟨Ha, HO, ⟨HY, Hh⟩, Hrest⟩
    imodintro
    isplitl [Ha Hh Hrest]
    · iapply hjoin; isplitl [Ha]; · iexact Ha
      iapply hr2
      isplitl [Hh]; · iexact Hh
      iexact Hrest
    isplitl [HY]; · iexact HY
    unfold Pipeline.Dat.owesAt Pipeline.owesWithin
    icases HO with ⟨%W, -, HO⟩; iexists W; iexact HO

/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters every weakly fair execution of @main terminates, nothing faulting, with
    every unscoped buffer at the last boundary's contents `W5` and every semaphore counter of the machine at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      rw [show (Pipeline.Seg.host (hseg hostOps3 hostOps3_sub hostOps3_fresh (W4 m ρ)) : Pipeline.Seg (pcfgs (F := F)) adm (pdats m ρ) () defs₀ 𝒱₀ L lv).post c = iprop(StableHlo.held (c : Thread nD τ) (Pipeline.ucRefs τ sig) (W5 m ρ c) ∗ R c) from rfl]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c _ (mem_uc main_arg0 (by decide))).trans (W5_main_arg0 m ρ c),
    (h.1 c _ (mem_uc main_arg1 (by decide))).trans (W5_main_arg1 m ρ c),
    (h.1 c _ (mem_uc main_arg2 (by decide))).trans (W5_main_arg2 m ρ c),
    (h.1 c _ (mem_uc main_arg3 (by decide))).trans (W5_main_arg3 m ρ c),
    (h.1 c _ (mem_uc main_arg4 (by decide))).trans (W5_main_arg4 m ρ c)⟩, h.2⟩) (run_main m ρ)

end Cert.KernelIdeal.Tile

end
-- ==== Proof.Frames.lean ====
/- The frames of the three programs: the kernel at the bit-exact and at the ideal instance, and the reference. -/
module

public import proofs.«01_k».proof.Proof.Device.Whole
public import proofs.«01_k».proof.Proof.Ideal.Whole
public import proofs.«01_k».proof.Proof.Gen.ReferenceIdeal
public import proofs.«01_k».proof.Proof.Gen.ReferenceIdeal.Run
public import Idealize.ShloMosaic.Lib.Quiescent
public import Idealize.ShloMosaic.PureOps.Ideal

@[expose] public section

noncomputable section

namespace Cert.Proof

open Idealize.ShloMosaic Idealize.SL.Sem

/-- The reference's frame: its run read at the arguments; it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
     ) ∧ r.2.sem = fun _ => 0) :=
  (θ_run (Cert.ReferenceIdeal.defs (F := Ideal)) _ _).mono (fun r h => And.intro (fun c => (h c).2.2)
      (Idealize.ShloMosaic.sem_eq_zero_of_no_sems (by decide) r.2))
    (Cert.ReferenceIdeal.Value.run (F := Ideal) m ρ)

end Cert.Proof

end
-- ==== Proof.Planes.lean ====
/- What the tile kernel computes, as families over the plane and bin number: the 129 planes of parameters, the widths, the
   heights, the running sums and the run of selections, each family one definition at whole blocks. -/
module

public import proofs.«01_k».proof.Proof.Ideal.TileRunA
public import proofs.«01_k».proof.Proof.Ideal.TileRunB

@[expose] public section

set_option maxRecDepth 16384

noncomputable section

namespace Cert.KernelIdeal.Planes

open Idealize.ShloMosaic Idealize.ShloMosaic.TcCoe
open Cert.KernelIdeal.Gen

variable {F : FTy → Type} [FloatOps F]

/-- A block of one number per element. -/
abbrev Blk (F : FTy → Type) : Type := FVec F S256x128 .f32

theorem slicesP (p : ℕ) (hp : p < 129) : S256x16512.Slices ![0, 128 * p] S256x128 :=
  ⟨rfl, fun a => by
    match a with
    | ⟨0, _⟩ => exact Nat.le_refl 256
    | ⟨1, _⟩ => show 128 * p + 128 ≤ 16512; omega⟩

theorem inbP (p : ℕ) (hp : p < 129) : ∀ a, (![p, 0] : Fin 2 → Nat) a + S1x128.size a ≤ S129x128.size a := fun a => by
  match a with
  | ⟨0, _⟩ => show p + 1 ≤ 129; omega
  | ⟨1, _⟩ => exact Nat.le_refl 128

/-- A number in every element. -/
abbrev all (b : BitVec 32) : Blk F := broadcast S256x128 (Scalar.ofBits .f32 b : F .f32)

variable (y : FVec F S256x16512 .f32) (b : ℕ → Vec F S1x128 .f32) (x : Blk F)

/-- Plane `p` of the parameters: its columns of the product, its row of the bias added. -/
def plane (p : ℕ) : Blk F :=
  if hp : p < 129 then
    addf (extractStridedSlice S256x128 ![0, 128 * p] y (slicesP p hp))
      (broadcastTo S256x128 (shapeCast S1x128 (b p) shapeCasts_S1x128_S1x128) broadcasts_S1x128_S256x128)
  else all 0x00000000#32

/-- The sum of `2 ^ n` blocks, neighbours first. -/
def tsum (n : ℕ) : (ℕ → Blk F) → Blk F :=
  Nat.rec (fun f => f 0) (fun _ r f => r fun i => addf (f (2 * i)) (f (2 * i + 1))) n

def ex (p : ℕ) : Blk F := exp (plane y b (65 + p))
def wscale : Blk F := divf (all 0x3F6F9DB2#32) (tsum 6 (ex y b))
def w (p : ℕ) : Blk F := addf (all 0x3A83126F#32) (mulf (ex y b p) (wscale y b))
def he (p : ℕ) : Blk F := addf (log1p (exp (plane y b p))) (all 0x3A83126F#32)
def area : Blk F := tsum 6 fun p => mulf (addf (he y b p) (he y b (p + 1))) (w y b p)
def inv : Blk F := divf (all 0x3F7FBE77#32) (mulf (all 0x3F000000#32) (area y b))
def h (p : ℕ) : Blk F := addf (all 0x3A83126F#32) (mulf (he y b p) (inv y b))
def run (q : ℕ) : Blk F := Nat.rec (w y b 0) (fun q r => addf r (w y b (q + 1))) q
def hm (q : ℕ) : Blk F := mulf (addf (h y b q) (h y b (q + 1))) (mulf (all 0x3F000000#32) (w y b q))
def runcdf (q : ℕ) : Blk F := Nat.rec (hm y b 0) (fun q r => addf r (hm y b (q + 1))) q

/-- The run of selections over the 63 inner edges: the last of `g 1 … g 63` whose edge is at or below `x`, else `g 0`. -/
def sel (g : ℕ → Blk F) : Blk F := Nat.rec (g 0) (fun q r => select (cmpf .oge x (run y b q)) (g (q + 1)) r) 63

/-- A family moved up by one, with zero in front. -/
def front (g : ℕ → Blk F) (k : ℕ) : Blk F := Nat.rec (all 0x00000000#32) (fun q _ => g q) k

def bloc : Blk F := sel y b x (front (run y b))
def lcdf : Blk F := sel y b x (front (runcdf y b))
def wsel : Blk F := sel y b x (w y b)
def lh : Blk F := sel y b x (h y b)
def rh : Blk F := sel y b x fun k => h y b (k + 1)
def alpha : Blk F := divf (subf x (bloc y b x)) (wsel y b x)
def dh : Blk F := subf (rh y b x) (lh y b x)
def out : Blk F :=
  addf (mulf (addf (mulf (mulf (mulf (all 0x3F000000#32) (dh y b x)) (wsel y b x)) (alpha y b x))
    (mulf (lh y b x) (wsel y b x))) (alpha y b x)) (lcdf y b x)
/-- What is stored in the last 128 columns. -/
def clipped : Blk F := minimumf (all 0x3F800000#32) (maximumf (all 0x00000000#32) (out y b x))
/-- What the logarithm is taken of. -/
def slope : Blk F := addf (mulf (alpha y b x) (dh y b x)) (lh y b x)
/-- What is stored in the second output. -/
def logdet : FVec F S256x1 .f32 :=
  shapeCast S256x1 (multiReduction .add [1] S256 (log (slope y b x)) 0x00000000#32 reduces_S256x128_S256 (.inl rfl) rfl)
    shapeCasts_S256_S256x1

end Cert.KernelIdeal.Planes

end
-- ==== Proof.PlanesRun.lean ====
/- The pieces each case of the tile kernel stores, as the families of Planes.lean at what the case loads. -/
module

public import proofs.«01_k».proof.Proof.Planes

@[expose] public section

set_option maxRecDepth 16384

noncomputable section

namespace Cert.KernelIdeal.Tile

open Idealize.ShloMosaic Idealize.ShloMosaic.TcCoe Idealize.ShloMosaic.Tactic
open Idealize.SL Idealize.SL.RA Idealize.SL.BI
open Cert.KernelIdeal.Gen

variable {F : FTy → Type} [FloatOps F]

/-- Row `p` of the bias, as the kernel loads it. -/
def brow (arg3 : Memref sig .tc .vmem S129x128 .f32) (harg3 : arg3.IsWhole) (x2 : Vec F S129x128 .f32) (p : ℕ) : Vec F S1x128 .f32 :=
  if hp : p < 129 then View.readAt (Elt F) arg3.view (Rect.unit ![p, 0] S1x128.size (Planes.inbP p hp) : Rect S129x128).toLoadRect (harg3.unread x2)
  else fun _ => (Scalar.ofBits .f32 0x00000000#32 : F .f32)

/-- The first 128 columns of the block of `z`, as the kernel loads them. -/
abbrev xblk (arg1 : Memref sig .tc .vmem S256x512 .f32) (harg1 : arg1.IsWhole) (x0 : Vec F S256x512 .f32) : Vec F S256x128 .f32 :=
  View.readAt (Elt F) arg1.view (Rect.unit ![0, 0] S256x128.size inb_S256x512_S256x128_0_0 : Rect S256x512).toLoadRect (harg1.unread x0)

/-- The other 384 columns. -/
abbrev zblk (arg1 : Memref sig .tc .vmem S256x512 .f32) (harg1 : arg1.IsWhole) (x0 : Vec F S256x512 .f32) : Vec F S256x384 .f32 :=
  View.readAt (Elt F) arg1.view (Rect.unit ![0, 128] S256x384.size inb_S256x512_S256x384_0_128 : Rect S256x512).toLoadRect (harg1.unread x0)

/-- Case B: the pieces of the first output. -/
theorem piecesB_3 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) :
    (kernelRun2_B c i arg1 harg1 arg2 harg2 arg3 harg3 arg5 harg5 arg6 harg6 arg7 harg7 arg8 harg8 hc0 x0 x1 x2 xs0 fh0).1
      = [⟨Rect.unit ![0, 384] S256x128.size inb_S256x512_S256x128_0_384, Planes.clipped (k2_pay4 (kernelRun2_B.sl.v12 c arg1 harg1 arg2 harg2 arg8 x0 x1)
        (View.readAt (Elt F) arg7.view (Rect.unit ![0, 0] S448x16512.size inb_S448x16512_S448x16512_0_0 : Rect S448x16512).toLoadRect (harg7.unread xs0))) (brow arg3 harg3 x2) (xblk arg1 harg1 x0)⟩,
        ⟨Rect.unit ![0, 0] S256x384.size inb_S256x512_S256x384_0_0, zblk arg1 harg1 x0⟩] := by
  sl_kernel_rfl

/-- Case B: the piece of the second output. -/
theorem piecesB_4 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) :
    (kernelRun2_B c i arg1 harg1 arg2 harg2 arg3 harg3 arg5 harg5 arg6 harg6 arg7 harg7 arg8 harg8 hc0 x0 x1 x2 xs0 fh0).2.1
      = [⟨Rect.unit ![0, 0] S256x1.size inb_S256x1_S256x1_0_0, Planes.logdet (k2_pay4 (kernelRun2_B.sl.v12 c arg1 harg1 arg2 harg2 arg8 x0 x1)
        (View.readAt (Elt F) arg7.view (Rect.unit ![0, 0] S448x16512.size inb_S448x16512_S448x16512_0_0 : Rect S448x16512).toLoadRect (harg7.unread xs0))) (brow arg3 harg3 x2) (xblk arg1 harg1 x0)⟩] := by
  sl_kernel_rfl

/-- Case A: the pieces of the first output. -/
theorem piecesA_3 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) :
    (kernelRun2_A c i arg1 harg1 arg2 harg2 arg3 harg3 arg5 harg5 arg6 harg6 arg7 harg7 arg8 harg8 hc0 x0 x1 x2 fh0).1
      = [⟨Rect.unit ![0, 384] S256x128.size inb_S256x512_S256x128_0_384, Planes.clipped (k2_pay4 (kernelRun2_A.sl.v12 c arg1 harg1 arg2 harg2 arg8 x0 x1)
        (kernelRun2_A.sl.v13 c arg7 fh0)) (brow arg3 harg3 x2) (xblk arg1 harg1 x0)⟩,
        ⟨Rect.unit ![0, 0] S256x384.size inb_S256x512_S256x384_0_0, zblk arg1 harg1 x0⟩] := by
  sl_kernel_rfl

/-- Case A: the piece of the second output. -/
theorem piecesA_4 (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) :
    (kernelRun2_A c i arg1 harg1 arg2 harg2 arg3 harg3 arg5 harg5 arg6 harg6 arg7 harg7 arg8 harg8 hc0 x0 x1 x2 fh0).2.1
      = [⟨Rect.unit ![0, 0] S256x1.size inb_S256x1_S256x1_0_0, Planes.logdet (k2_pay4 (kernelRun2_A.sl.v12 c arg1 harg1 arg2 harg2 arg8 x0 x1)
        (kernelRun2_A.sl.v13 c arg7 fh0)) (brow arg3 harg3 x2) (xblk arg1 harg1 x0)⟩] := by
  sl_kernel_rfl

end Cert.KernelIdeal.Tile

end
-- ==== Proof.TileVal.lean ====
/- What the tile kernel leaves in its outputs and its scratch at one grid point, as functions of the blocks it loads. -/
module

public import proofs.«01_k».proof.Proof.PlanesRun
public import proofs.«01_k».proof.Proof.Ideal.Tile
public import Idealize.ShloMosaic.Lib.ValueIdx
public import Idealize.ShloMosaic.Lib.Pipeline.ValueKit

@[expose] public section

set_option maxRecDepth 16384

noncomputable section

namespace Cert.KernelIdeal.Tile

open Idealize.ShloMosaic hiding ix2 eq_ix2
open Idealize.ShloMosaic.TcCoe Idealize.ShloMosaic.Tactic Idealize.ShloMosaic.ValueIdx
open Idealize.SL Idealize.SL.RA Idealize.SL.BI
open Cert.KernelIdeal.Gen

theorem hz2 : (![0, 0] : Fin 2 → Nat) = fun _ => 0 := by
  funext a; match a with | ⟨0, _⟩ => rfl | ⟨1, _⟩ => rfl

/-- Two stores side by side along the second axis, read back at an index. -/
theorem canon_cols {Val : EltTy → Type} [∀ e, Nonempty (Val e)] {e : EltTy} {n a b N : ℕ} (hN : N = a + b)
    (P : (⟨2, ![n, b]⟩ : Shape).Idx → Val e) (Q : (⟨2, ![n, a]⟩ : Shape).Idx → Val e)
    (inb : ∀ d, (![0, a] : Fin 2 → Nat) d + (⟨2, ![n, b]⟩ : Shape).size d ≤ (⟨2, ![n, N]⟩ : Shape).size d)
    (inb' : ∀ d, (![0, 0] : Fin 2 → Nat) d + (⟨2, ![n, a]⟩ : Shape).size d ≤ (⟨2, ![n, N]⟩ : Shape).size d)
    (r : Fin n) (k : Fin N) :
    View.canon ([⟨Rect.unit (s := ⟨2, ![n, N]⟩) ![0, a] (⟨2, ![n, b]⟩ : Shape).size inb, P⟩,
        ⟨Rect.unit (s := ⟨2, ![n, N]⟩) ![0, 0] (⟨2, ![n, a]⟩ : Shape).size inb', Q⟩] : List (View.Piece Val ⟨2, ![n, N]⟩ e)) (ix2 r k)
      = if h : k.val < a then Q (ix2 r ⟨k.val, h⟩) else P (ix2 r ⟨k.val - a, by omega⟩) := by
  have hk := k.isLt
  have hr := r.isLt
  refine View.canon_eq_of_allAt _ _ _ ?_ ?_
  · by_cases h : k.val < a
    · refine ⟨_, List.mem_cons.mpr (Or.inr (List.mem_singleton.mpr rfl)), ?_⟩
      refine (Rect.mem_set_unit (inb := inb')).mpr fun d => ?_
      match d with
      | ⟨0, _⟩ => exact ⟨Nat.zero_le _, by show r.val < 0 + n; omega⟩
      | ⟨1, _⟩ => exact ⟨Nat.zero_le _, by show k.val < 0 + a; omega⟩
    · refine ⟨_, List.mem_cons_self, ?_⟩
      refine (Rect.mem_set_unit (inb := inb)).mpr fun d => ?_
      match d with
      | ⟨0, _⟩ => exact ⟨Nat.zero_le _, by show r.val < 0 + n; omega⟩
      | ⟨1, _⟩ => exact ⟨by show a ≤ k.val; omega, by show k.val < a + b; omega⟩
  · refine View.allAt_cons_unit _ _ _ _ _ (fun x hx => ?_) (View.allAt_cons_unit _ _ _ _ _ (fun x hx => ?_) (View.allAt_nil _ _))
    · have h0 : r.val = 0 + (x 0).val := hx 0
      have h1 : k.val = a + (x 1).val := hx 1
      rw [dif_neg (by omega)]
      refine congrArg P (funext fun d => Fin.ext ?_)
      match d with
      | ⟨0, _⟩ => show (x 0).val = r.val; omega
      | ⟨1, _⟩ => show (x 1).val = k.val - a; omega
    · have h0 : r.val = 0 + (x 0).val := hx 0
      have h1 : k.val = 0 + (x 1).val := hx 1
      have h2 : (x 1).val < a := (x 1).isLt
      rw [dif_pos (by omega)]
      refine congrArg Q (funext fun d => Fin.ext ?_)
      match d with
      | ⟨0, _⟩ => show (x 0).val = r.val; omega
      | ⟨1, _⟩ => show (x 1).val = k.val; omega

variable {F : FTy → Type} [FloatOps F]

/-- The left factor of the product: the last 384 columns of `z`, then `c`. -/
def zc (x0 : Vec F S256x512 .f32) (x1 : Vec F S256x64 .f32) : Vec F S256x448 .f32 := fun i =>
  if h : (i 1).val < 384 then x0 (ix2 (n0 := 256) (n1 := 512) (i 0) ⟨128 + (i 1).val, by omega⟩)
  else x1 (ix2 (n0 := 256) (n1 := 64) (i 0) ⟨(i 1).val - 384, by have : (i 1).val < 448 := (i 1).isLt; omega⟩)

/-- Row `p` of the bias. -/
def bias (x2 : Vec F S129x128 .f32) (p : ℕ) : Vec F S1x128 .f32 := fun i =>
  if hp : p < 129 then x2 (ix2 (n0 := 129) (n1 := 128) ⟨p, hp⟩ (i 1)) else (Scalar.ofBits .f32 0x00000000#32 : F .f32)

/-- The first 128 columns of `z`. -/
def xs (x0 : Vec F S256x512 .f32) : Vec F S256x128 .f32 := fun i =>
  x0 (ix2 (n0 := 256) (n1 := 512) (i 0) ⟨(i 1).val, by have : (i 1).val < 128 := (i 1).isLt; omega⟩)

/-- The other 384. -/
def zs (x0 : Vec F S256x512 .f32) : Vec F S256x384 .f32 := fun i =>
  x0 (ix2 (n0 := 256) (n1 := 512) (i 0) ⟨128 + (i 1).val, by have : (i 1).val < 384 := (i 1).isLt; omega⟩)

/-- The first output's block. -/
def tileX (x0 : Vec F S256x512 .f32) (x1 : Vec F S256x64 .f32) (x2 : Vec F S129x128 .f32) (wv : Vec F S448x16512 .f32) : Vec F S256x512 .f32 :=
  fun i => if h : (i 1).val < 384 then zs x0 (ix2 (n0 := 256) (n1 := 384) (i 0) ⟨(i 1).val, h⟩)
    else Planes.clipped (k2_pay4 (zc x0 x1) wv) (bias x2) (xs x0)
      (ix2 (n0 := 256) (n1 := 128) (i 0) ⟨(i 1).val - 384, by have : (i 1).val < 512 := (i 1).isLt; omega⟩)

/-- The second output's block. -/
def tileL (x0 : Vec F S256x512 .f32) (x1 : Vec F S256x64 .f32) (x2 : Vec F S129x128 .f32) (wv : Vec F S448x16512 .f32) : Vec F S256x1 .f32 :=
  Planes.logdet (k2_pay4 (zc x0 x1) wv) (bias x2) (xs x0)

theorem brow_eq (arg3 : Memref sig .tc .vmem S129x128 .f32) (harg3 : arg3.IsWhole) (x2 : Vec F S129x128 .f32) :
    brow arg3 harg3 x2 = bias x2 := by
  funext p i
  unfold brow bias
  by_cases hp : p < 129
  · rw [dif_pos hp, dif_pos hp, View.readAt_eq_ld, harg3.read_unread]
    refine View.ld_unit_apply_of _ _ _ _ _ _ fun a => ?_
    match a with
    | ⟨0, _⟩ => have : (i 0).val < 1 := (i 0).isLt; show p = p + (i 0).val; omega
    | ⟨1, _⟩ => exact (Nat.zero_add _).symm
  · rw [dif_neg hp, dif_neg hp]

theorem xblk_eq (arg1 : Memref sig .tc .vmem S256x512 .f32) (harg1 : arg1.IsWhole) (x0 : Vec F S256x512 .f32) :
    xblk arg1 harg1 x0 = xs x0 := by
  funext i
  unfold xblk xs
  rw [View.readAt_eq_ld, harg1.read_unread]
  refine View.ld_unit_apply_of _ _ _ _ _ _ fun a => ?_
  match a with
  | ⟨0, _⟩ => exact (Nat.zero_add _).symm
  | ⟨1, _⟩ => exact (Nat.zero_add _).symm

theorem zblk_eq (arg1 : Memref sig .tc .vmem S256x512 .f32) (harg1 : arg1.IsWhole) (x0 : Vec F S256x512 .f32) :
    zblk arg1 harg1 x0 = zs x0 := by
  funext i
  unfold zblk zs
  rw [View.readAt_eq_ld, harg1.read_unread]
  refine View.ld_unit_apply_of _ _ _ _ _ _ fun a => ?_
  match a with
  | ⟨0, _⟩ => exact (Nat.zero_add _).symm
  | ⟨1, _⟩ => rfl

/-- What the scratch of the left factor holds where the product loads it. -/
theorem zc_eq (arg1 : Memref sig .tc .vmem S256x512 .f32) (harg1 : arg1.IsWhole) (arg2 : Memref sig .tc .vmem S256x64 .f32) (harg2 : arg2.IsWhole) (arg8 : Memref sig .tc .vmem S256x448 .f32) (x0 : Vec F S256x512 .f32) (x1 : Vec F S256x64 .f32) :
    arg8.view.readCov (Val := Elt F) [⟨Rect.unit ![0, 384] S256x64.size inb_S256x448_S256x64_0_384,
        k2_pay3 (View.readAt (Elt F) arg2.view (Rect.unit ![0, 0] S256x64.size inb_S256x64_S256x64_0_0 : Rect S256x64).toLoadRect (harg2.unread x1))⟩,
      ⟨Rect.unit ![0, 0] S256x384.size inb_S256x448_S256x384_0_0, k2_pay2 (zblk arg1 harg1 x0)⟩]
      (Rect.unit ![0, 0] S256x448.size inb_S256x448_S256x448_0_0 : Rect S256x448).toLoadRect = zc x0 x1 := by
  have e1 : k2_pay3 (View.readAt (Elt F) arg2.view (Rect.unit ![0, 0] S256x64.size inb_S256x64_S256x64_0_0 : Rect S256x64).toLoadRect (harg2.unread x1)) = x1 := by
    rw [View.readAt_eq_ld, harg2.read_unread, View.ld_unit_zero hz2]
    exact shapeCast_self _ _
  have e2 : k2_pay2 (zblk arg1 harg1 x0) = zs x0 := by
    rw [zblk_eq]
    exact shapeCast_self _ _
  rw [e1, e2, View.readCov_eq_canon_ld _ _ _ fun y => ?_]
  · rw [View.ld_unit_zero hz2]
    funext i
    rw [eq_ix2 (n0 := 256) (n1 := 448) i]
    exact canon_cols (n := 256) (a := 384) (b := 64) rfl _ _ _ _ (i 0) (i 1)
  · by_cases h : (y 1).val < 384
    · refine ⟨_, List.mem_cons.mpr (Or.inr (List.mem_singleton.mpr rfl)), ?_⟩
      refine (Rect.mem_set_unit (inb := inb_S256x448_S256x384_0_0)).mpr fun d => ?_
      match d with
      | ⟨0, _⟩ => exact ⟨Nat.zero_le _, by have : (y 0).val < 256 := (y 0).isLt; show (y 0).val < 0 + 256; omega⟩
      | ⟨1, _⟩ => exact ⟨Nat.zero_le _, by show (y 1).val < 0 + 384; omega⟩
    · refine ⟨_, List.mem_cons_self, ?_⟩
      refine (Rect.mem_set_unit (inb := inb_S256x448_S256x64_0_384)).mpr fun d => ?_
      match d with
      | ⟨0, _⟩ => exact ⟨Nat.zero_le _, by have : (y 0).val < 256 := (y 0).isLt; show (y 0).val < 0 + 256; omega⟩
      | ⟨1, _⟩ => exact ⟨by show 384 ≤ (y 1).val; omega, by have : (y 1).val < 448 := (y 1).isLt; show (y 1).val < 384 + 64; omega⟩

/-- The pieces of the first output read back. -/
theorem canonX (x0 : Vec F S256x512 .f32) (P : Vec F S256x128 .f32) :
    View.canon ([⟨Rect.unit ![0, 384] S256x128.size inb_S256x512_S256x128_0_384, P⟩,
        ⟨Rect.unit ![0, 0] S256x384.size inb_S256x512_S256x384_0_0, zs x0⟩] : List (View.Piece (Elt F) S256x512 .f32))
      = fun i => if h : (i 1).val < 384 then zs x0 (ix2 (n0 := 256) (n1 := 384) (i 0) ⟨(i 1).val, h⟩)
        else P (ix2 (n0 := 256) (n1 := 128) (i 0) ⟨(i 1).val - 384, by have : (i 1).val < 512 := (i 1).isLt; omega⟩) := by
  funext i
  rw [eq_ix2 (n0 := 256) (n1 := 512) i]
  exact canon_cols (n := 256) (a := 384) (b := 128) rfl _ _ _ _ (i 0) (i 1)

/-- What the operand left in place holds. -/
abbrev inPlace (c : Dev nD) (fh0 : HbBuf2 (F := F) c hbM2_0) : Vec F S448x16512 .f32 := View.read (Elt F) (Memref.whole main_v0).view fh0

/-- A whole-buffer store read back through the whole. -/
theorem readCov_all (v : View sig .tc .vmem S448x16512 .f32) (w : Vec F S448x16512 .f32) :
    v.readCov (Val := Elt F) [⟨Rect.whole S448x16512, w⟩] (Rect.unit ![0, 0] S448x16512.size inb_S448x16512_S448x16512_0_0 : Rect S448x16512).toLoadRect = w := by
  rw [View.readCov_eq_canon_ld _ _ _ fun y => ⟨_, List.mem_cons_self, by rw [Rect.set_whole]; exact Finset.mem_univ y⟩, View.ld_unit_zero hz2]
  exact View.canon_unit_zero rfl _ w

/-- Case B, output 3. -/
theorem out2_B_3_eq (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) :
    out2_B_3 c i arg1 harg1 arg2 harg2 arg3 harg3 arg5 harg5 arg6 harg6 arg7 harg7 arg8 harg8 hc0 x0 x1 x2 xs0 fh0 = tileX x0 x1 x2 xs0 := by
  have e12 : kernelRun2_B.sl.v12 c arg1 harg1 arg2 harg2 arg8 x0 x1 = zc x0 x1 := zc_eq arg1 harg1 arg2 harg2 arg8 x0 x1
  have e13 : View.readAt (Elt F) arg7.view (Rect.unit ![0, 0] S448x16512.size inb_S448x16512_S448x16512_0_0 : Rect S448x16512).toLoadRect (harg7.unread xs0) = xs0 := by
    rw [View.readAt_eq_ld, harg7.read_unread, View.ld_unit_zero hz2]
  unfold out2_B_3
  rw [View.read_writes_junk_eq_canon, piecesB_3, e12, e13, brow_eq, xblk_eq, zblk_eq, canonX]
  rfl

/-- Case B, output 4. -/
theorem out2_B_4_eq (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : ¬cond2_0 i)
    (x0 : Vec F S256x512 .f32) (x1 : Vec F S256x64 .f32) (x2 : Vec F S129x128 .f32) (xs0 : Vec F S448x16512 .f32) (fh0 : HbBuf2 (F := F) c hbM2_0) :
    out2_B_4 c i arg1 harg1 arg2 harg2 arg3 harg3 arg5 harg5 arg6 harg6 arg7 harg7 arg8 harg8 hc0 x0 x1 x2 xs0 fh0 = tileL x0 x1 x2 xs0 := by
  have e12 : kernelRun2_B.sl.v12 c arg1 harg1 arg2 harg2 arg8 x0 x1 = zc x0 x1 := zc_eq arg1 harg1 arg2 harg2 arg8 x0 x1
  have e13 : View.readAt (Elt F) arg7.view (Rect.unit ![0, 0] S448x16512.size inb_S448x16512_S448x16512_0_0 : Rect S448x16512).toLoadRect (harg7.unread xs0) = xs0 := by
    rw [View.readAt_eq_ld, harg7.read_unread, View.ld_unit_zero hz2]
  unfold out2_B_4
  rw [View.read_writes_junk_eq_canon, piecesB_4, e12, e13, brow_eq, xblk_eq, View.canon_unit_zero hz2]
  rfl

/-- Case A, output 3. -/
theorem out2_A_3_eq (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) :
    out2_A_3 c i arg1 harg1 arg2 harg2 arg3 harg3 arg5 harg5 arg6 harg6 arg7 harg7 arg8 harg8 hc0 x0 x1 x2 fh0 = tileX x0 x1 x2 (inPlace c fh0) := by
  have e12 : kernelRun2_A.sl.v12 c arg1 harg1 arg2 harg2 arg8 x0 x1 = zc x0 x1 := zc_eq arg1 harg1 arg2 harg2 arg8 x0 x1
  have e13 : kernelRun2_A.sl.v13 c arg7 fh0 = inPlace c fh0 := readCov_all _ _
  unfold out2_A_3
  rw [View.read_writes_junk_eq_canon, piecesA_3, e12, e13, brow_eq, xblk_eq, zblk_eq, canonX]
  rfl

/-- Case A, output 4. -/
theorem out2_A_4_eq (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) :
    out2_A_4 c i arg1 harg1 arg2 harg2 arg3 harg3 arg5 harg5 arg6 harg6 arg7 harg7 arg8 harg8 hc0 x0 x1 x2 fh0 = tileL x0 x1 x2 (inPlace c fh0) := by
  have e12 : kernelRun2_A.sl.v12 c arg1 harg1 arg2 harg2 arg8 x0 x1 = zc x0 x1 := zc_eq arg1 harg1 arg2 harg2 arg8 x0 x1
  have e13 : kernelRun2_A.sl.v13 c arg7 fh0 = inPlace c fh0 := readCov_all _ _
  unfold out2_A_4
  rw [View.read_writes_junk_eq_canon, piecesA_4, e12, e13, brow_eq, xblk_eq, View.canon_unit_zero hz2]
  rfl

/-- Case A leaves the operand's contents in the carried scratch. -/
theorem sout2_A_0_eq (c : Dev nD) (i : grid2.Coords) (arg1 : Memref sig .tc .vmem S256x512 .f32) (harg1 : arg1.IsWhole) (arg2 : Memref sig .tc .vmem S256x64 .f32) (harg2 : arg2.IsWhole) (arg3 : Memref sig .tc .vmem S129x128 .f32) (harg3 : arg3.IsWhole) (arg5 : Memref sig .tc .vmem S256x512 .f32) (harg5 : arg5.IsWhole) (arg6 : Memref sig .tc .vmem S256x1 .f32) (harg6 : arg6.IsWhole) (arg7 : Memref sig .tc .vmem S448x16512 .f32) (harg7 : arg7.IsWhole) (arg8 : Memref sig .tc .vmem S256x448 .f32) (harg8 : arg8.IsWhole) (hc0 : cond2_0 i)
    (x0 : Vec F S256x512 .f32) (x1 : Vec F S256x64 .f32) (x2 : Vec F S129x128 .f32) (fh0 : HbBuf2 (F := F) c hbM2_0) :
    sout2_A_0 c i arg1 harg1 arg2 harg2 arg3 harg3 arg5 harg5 arg6 harg6 arg7 harg7 arg8 harg8 hc0 x0 x1 x2 fh0 = inPlace c fh0 := by
  unfold sout2_A_0
  rw [View.read_writes_junk_eq_canon]
  exact View.canon_unit_zero rfl _ (inPlace c fh0)

end Cert.KernelIdeal.Tile

end
-- ==== Proof.ArraysTile.lean ====
/- What the tile region leaves in its two result arrays, as functions of its operand arrays. -/
module

public import proofs.«01_k».proof.Proof.TileVal

@[expose] public section

set_option maxRecDepth 16384

noncomputable section

namespace Cert.KernelIdeal.Tile

open Idealize.ShloMosaic hiding ix2 eq_ix2
open Idealize.ShloMosaic.TcCoe Idealize.ShloMosaic.Tactic Idealize.ShloMosaic.ValueIdx Idealize.ShloMosaic.Pipeline
open Idealize.SL Idealize.SL.RA Idealize.SL.BI
open Cert.KernelIdeal.Gen

variable {F : FTy → Type} [FloatOps F]

theorem inPlace_eq (c : Dev nD) (fh0 : HbBuf2 (F := F) c hbM2_0) : inPlace c fh0 = fh0 := rfl

variable (V : (c : Dev nD) → (b : Ref sig .tc) → Buf (Elt F) ((c : Thread nD τ).loc b))

theorem N2 : cfg2.N = 16 := by decide +kernel

/-- At every point the scratch carried between points holds the permuted weights, and the outputs' blocks are the tile's. -/
theorem outsAt2_eq (c : Dev nD) (n : ℕ) (hn : n < cfg2.N) :
    outsAt2 V c n hn = (tileX (iblk2 V c 0 ⟨n, hn⟩) (iblk2 V c 1 ⟨n, hn⟩) (iblk2 V c 2 ⟨n, hn⟩) (V c main_v0),
      tileL (iblk2 V c 0 ⟨n, hn⟩) (iblk2 V c 1 ⟨n, hn⟩) (iblk2 V c 2 ⟨n, hn⟩) (V c main_v0), V c main_v0) := by
  induction n with
  | zero =>
    rw [outsAt2_A V c ⟨0, hn⟩ (Nat.zero_mod _), out2_A_3_eq, out2_A_4_eq, sout2_A_0_eq, inPlace_eq]
  | succ n ih =>
    have hN := N2
    have h0 : ¬(n + 1) % 16 = 0 := by omega
    have := ih (Nat.lt_of_succ_lt hn)
    rw [outsAt2_B V c ⟨n + 1, hn⟩ h0, out2_B_3_eq, out2_B_4_eq]
    unfold sout2_B_0
    rw [show (outsAt2 V c ((⟨n + 1, hn⟩ : Fin cfg2.N).val - 1) _).2.2 = V c main_v0 from congrArg (fun p => p.2.2) this]

/-- The 256 rows of `z` that tile `t` takes. -/
def zrows (z : Vec F S4096x512 .f32) (t : Fin 16) : Vec F S256x512 .f32 := fun j =>
  z (ix2 (n0 := 4096) (n1 := 512) ⟨t.val * 256 + (j 0).val, by have : (j 0).val < 256 := (j 0).isLt; have := t.isLt; omega⟩ (j 1))
/-- The 256 rows of `c`. -/
def crows (x : Vec F S4096x64 .f32) (t : Fin 16) : Vec F S256x64 .f32 := fun j =>
  x (ix2 (n0 := 4096) (n1 := 64) ⟨t.val * 256 + (j 0).val, by have : (j 0).val < 256 := (j 0).isLt; have := t.isLt; omega⟩ (j 1))

/-- The tile a row is in. -/
def tileOf (r : Fin 4096) : Fin 16 := ⟨r.val / 256, by have := r.isLt; omega⟩
/-- Where in its tile. -/
def rowOf (r : Fin 4096) : Fin 256 := ⟨r.val % 256, Nat.mod_lt _ (by decide)⟩

/-- The first result array. -/
def arrX (z : Vec F S4096x512 .f32) (x : Vec F S4096x64 .f32) (b2 : Vec F S129x128 .f32) (w2 : Vec F S448x16512 .f32) :
    Vec F S4096x512 .f32 := fun i =>
  tileX (zrows z (tileOf (i 0))) (crows x (tileOf (i 0))) b2 w2 (ix2 (n0 := 256) (n1 := 512) (rowOf (i 0)) (i 1))
/-- The second. -/
def arrL (z : Vec F S4096x512 .f32) (x : Vec F S4096x64 .f32) (b2 : Vec F S129x128 .f32) (w2 : Vec F S448x16512 .f32) :
    Vec F S4096x1 .f32 := fun i =>
  tileL (zrows z (tileOf (i 0))) (crows x (tileOf (i 0))) b2 w2 (ix2 (n0 := 256) (n1 := 1) (rowOf (i 0)) (i 1))

theorem index2_0 : ∀ t : Fin cfg2.N, win2_0.index t (0 : Fin 2) = t.val ∧ win2_0.index t (1 : Fin 2) = 0 :=
  (by decide +kernel : ∀ t : Fin grid2.N, _)
theorem index2_1 : ∀ t : Fin cfg2.N, win2_1.index t (0 : Fin 2) = t.val ∧ win2_1.index t (1 : Fin 2) = 0 :=
  (by decide +kernel : ∀ t : Fin grid2.N, _)
theorem index2_2 : ∀ t : Fin cfg2.N, win2_2.index t (0 : Fin 2) = 0 ∧ win2_2.index t (1 : Fin 2) = 0 :=
  (by decide +kernel : ∀ t : Fin grid2.N, _)
theorem index2_3 : ∀ t : Fin cfg2.N, win2_3.index t (0 : Fin 2) = t.val ∧ win2_3.index t (1 : Fin 2) = 0 :=
  (by decide +kernel : ∀ t : Fin grid2.N, _)
theorem index2_4 : ∀ t : Fin cfg2.N, win2_4.index t (0 : Fin 2) = t.val ∧ win2_4.index t (1 : Fin 2) = 0 :=
  (by decide +kernel : ∀ t : Fin grid2.N, _)

/-- A point of the grid as a tile number. -/
abbrev tileAt (t : Fin cfg2.N) : Fin 16 := ⟨t.val, lt_of_lt_of_eq t.isLt N2⟩

theorem iblk2_0_eq (c : Dev nD) (t : Fin cfg2.N) : iblk2 V c 0 t = zrows (V c main_arg1) (tileAt t) := by
  obtain ⟨e0, e1⟩ := index2_0 t
  funext j
  show V c main_arg1 (((cfg2.win 0).blk t).view.emb j) = _
  refine congrArg (V c main_arg1) (funext fun a => Fin.ext ?_)
  match a with
  | ⟨0, _⟩ => show win2_0.index t (0 : Fin 2) * 256 + 1 * (j 0).val = t.val * 256 + (j 0).val; rw [e0, Nat.one_mul]
  | ⟨1, _⟩ => show win2_0.index t (1 : Fin 2) * 512 + 1 * (j 1).val = (j 1).val; omega

theorem iblk2_1_eq (c : Dev nD) (t : Fin cfg2.N) : iblk2 V c 1 t = crows (V c main_arg0) (tileAt t) := by
  obtain ⟨e0, e1⟩ := index2_1 t
  funext j
  show V c main_arg0 (((cfg2.win 1).blk t).view.emb j) = _
  refine congrArg (V c main_arg0) (funext fun a => Fin.ext ?_)
  match a with
  | ⟨0, _⟩ => show win2_1.index t (0 : Fin 2) * 256 + 1 * (j 0).val = t.val * 256 + (j 0).val; rw [e0, Nat.one_mul]
  | ⟨1, _⟩ => show win2_1.index t (1 : Fin 2) * 64 + 1 * (j 1).val = (j 1).val; omega

theorem iblk2_2_eq (c : Dev nD) (t : Fin cfg2.N) : iblk2 V c 2 t = V c main_v2 := by
  obtain ⟨e0, e1⟩ := index2_2 t
  funext j
  show V c main_v2 (((cfg2.win 2).blk t).view.emb j) = _
  refine congrArg (V c main_v2) (funext fun a => Fin.ext ?_)
  match a with
  | ⟨0, _⟩ => show win2_2.index t (0 : Fin 2) * 129 + 1 * (j 0).val = (j 0).val; omega
  | ⟨1, _⟩ => show win2_2.index t (1 : Fin 2) * 128 + 1 * (j 1).val = (j 1).val; omega

/-- Where a block of the first result lies in its array. -/
theorem emb2_3 (t : Fin cfg2.N) (j : S256x512.Idx) : ((cfg2.win 3).blk t).view.emb j
    = (ix2 (n0 := 4096) (n1 := 512) ⟨t.val * 256 + (j 0).val, by
        have : (j 0).val < 256 := (j 0).isLt
        have : t.val < 16 := (tileAt t).isLt
        omega⟩ (j 1) : S4096x512.Idx) := by
  obtain ⟨e0, e1⟩ := index2_3 t
  funext a; apply Fin.ext
  match a with
  | ⟨0, _⟩ => show win2_3.index t (0 : Fin 2) * 256 + 1 * (j 0).val = t.val * 256 + (j 0).val; rw [e0, Nat.one_mul]
  | ⟨1, _⟩ => show win2_3.index t (1 : Fin 2) * 512 + 1 * (j 1).val = (j 1).val; omega

theorem emb2_4 (t : Fin cfg2.N) (j : S256x1.Idx) : ((cfg2.win 4).blk t).view.emb j
    = (ix2 (n0 := 4096) (n1 := 1) ⟨t.val * 256 + (j 0).val, by
        have : (j 0).val < 256 := (j 0).isLt
        have : t.val < 16 := (tileAt t).isLt
        omega⟩ (j 1) : S4096x1.Idx) := by
  obtain ⟨e0, e1⟩ := index2_4 t
  funext a; apply Fin.ext
  match a with
  | ⟨0, _⟩ => show win2_4.index t (0 : Fin 2) * 256 + 1 * (j 0).val = t.val * 256 + (j 0).val; rw [e0, Nat.one_mul]
  | ⟨1, _⟩ => show win2_4.index t (1 : Fin 2) * 1 + 1 * (j 1).val = (j 1).val; omega

theorem split_row (q : Fin 16) (r : Fin 256) (h : q.val * 256 + r.val < 4096) :
    tileOf ⟨q.val * 256 + r.val, h⟩ = q ∧ rowOf ⟨q.val * 256 + r.val, h⟩ = r := by
  have := r.isLt
  exact ⟨Fin.ext (by show (q.val * 256 + r.val) / 256 = q.val; omega), Fin.ext (by show (q.val * 256 + r.val) % 256 = r.val; omega)⟩

theorem arrX_at (z : Vec F S4096x512 .f32) (x : Vec F S4096x64 .f32) (b2 : Vec F S129x128 .f32) (w2 : Vec F S448x16512 .f32)
    (q : Fin 16) (r : Fin 256) (k : Fin 512) (h : q.val * 256 + r.val < 4096) :
    arrX z x b2 w2 (ix2 (n0 := 4096) (n1 := 512) ⟨q.val * 256 + r.val, h⟩ k) = tileX (zrows z q) (crows x q) b2 w2 (ix2 r k) := by
  obtain ⟨h1, h2⟩ := split_row q r h
  show tileX (zrows z (tileOf ⟨q.val * 256 + r.val, h⟩)) (crows x (tileOf ⟨q.val * 256 + r.val, h⟩)) b2 w2
    (ix2 (n0 := 256) (n1 := 512) (rowOf ⟨q.val * 256 + r.val, h⟩) k) = _
  rw [h1, h2]

theorem arrL_at (z : Vec F S4096x512 .f32) (x : Vec F S4096x64 .f32) (b2 : Vec F S129x128 .f32) (w2 : Vec F S448x16512 .f32)
    (q : Fin 16) (r : Fin 256) (k : Fin 1) (h : q.val * 256 + r.val < 4096) :
    arrL z x b2 w2 (ix2 (n0 := 4096) (n1 := 1) ⟨q.val * 256 + r.val, h⟩ k) = tileL (zrows z q) (crows x q) b2 w2 (ix2 r k) := by
  obtain ⟨h1, h2⟩ := split_row q r h
  show tileL (zrows z (tileOf ⟨q.val * 256 + r.val, h⟩)) (crows x (tileOf ⟨q.val * 256 + r.val, h⟩)) b2 w2
    (ix2 (n0 := 256) (n1 := 1) (rowOf ⟨q.val * 256 + r.val, h⟩) k) = _
  rw [h1, h2]

theorem flushed2_3 (c : Dev nD) (t : Fin cfg2.N) : (dat2 V c).flushed 3 t
    = ((cfg2.win 3).blk t).view.read (Elt F) (arrX (V c main_arg1) (V c main_arg0) (V c main_v2) (V c main_v0)) := by
  have e : (dat2 V c).after 3 t = tileX (zrows (V c main_arg1) (tileAt t)) (crows (V c main_arg0) (tileAt t)) (V c main_v2) (V c main_v0) := by
    rw [after2_3, outsAt2_eq, iblk2_0_eq, iblk2_1_eq, iblk2_2_eq]
  show (cfg2.win 3).cut (grid2.coords t) ((dat2 V c).after 3 t) = _
  rw [e]
  funext j
  show tileX _ _ _ _ j = arrX _ _ _ _ (((cfg2.win 3).blk t).view.emb j)
  rw [emb2_3]
  exact ((arrX_at _ _ _ _ (tileAt t) (j 0) (j 1) _).trans (congrArg _ (eq_ix2 (n0 := 256) (n1 := 512) j).symm)).symm

theorem flushed2_4 (c : Dev nD) (t : Fin cfg2.N) : (dat2 V c).flushed 4 t
    = ((cfg2.win 4).blk t).view.read (Elt F) (arrL (V c main_arg1) (V c main_arg0) (V c main_v2) (V c main_v0)) := by
  have e : (dat2 V c).after 4 t = tileL (zrows (V c main_arg1) (tileAt t)) (crows (V c main_arg0) (tileAt t)) (V c main_v2) (V c main_v0) := by
    rw [after2_4, outsAt2_eq, iblk2_0_eq, iblk2_1_eq, iblk2_2_eq]
  show (cfg2.win 4).cut (grid2.coords t) ((dat2 V c).after 4 t) = _
  rw [e]
  funext j
  show tileL _ _ _ _ j = arrL _ _ _ _ (((cfg2.win 4).blk t).view.emb j)
  rw [emb2_4]
  exact ((arrL_at _ _ _ _ (tileAt t) (j 0) (j 1) _).trans (congrArg _ (eq_ix2 (n0 := 256) (n1 := 1) j).symm)).symm

/-- The grid point whose blocks hold row `r`. -/
abbrev ptOf (r : Fin 4096) : Fin cfg2.N := ⟨r.val / 256, lt_of_lt_of_eq (tileOf r).isLt N2.symm⟩

theorem flush2_3' : ∀ t : Fin cfg2.N, (cfg2.win 3).flush t = true := (by decide +kernel : ∀ t : Fin grid2.N, _)
theorem flush2_4' : ∀ t : Fin cfg2.N, (cfg2.win 4).flush t = true := (by decide +kernel : ∀ t : Fin grid2.N, _)

theorem covered2_3 (i : S4096x512.Idx) : ∃ t : Fin cfg2.N, (cfg2.win 3).flush t = true ∧ i ∈ ((cfg2.win 3).blk t).view.set := by
  refine ⟨ptOf (i 0), flush2_3' _, ?_⟩
  have h := ((cfg2.win 3).blk (ptOf (i 0))).view.emb_mem_set (ix2 (n0 := 256) (n1 := 512) (rowOf (i 0)) (i 1) : S256x512.Idx)
  have e : ((cfg2.win 3).blk (ptOf (i 0))).view.emb (ix2 (n0 := 256) (n1 := 512) (rowOf (i 0)) (i 1) : S256x512.Idx) = i := by
    rw [emb2_3]
    funext a; apply Fin.ext
    match a with
    | ⟨0, _⟩ => show (i 0).val / 256 * 256 + (i 0).val % 256 = (i 0).val; omega
    | ⟨1, _⟩ => rfl
  rwa [e] at h

theorem covered2_4 (i : S4096x1.Idx) : ∃ t : Fin cfg2.N, (cfg2.win 4).flush t = true ∧ i ∈ ((cfg2.win 4).blk t).view.set := by
  refine ⟨ptOf (i 0), flush2_4' _, ?_⟩
  have h := ((cfg2.win 4).blk (ptOf (i 0))).view.emb_mem_set (ix2 (n0 := 256) (n1 := 1) (rowOf (i 0)) (i 1) : S256x1.Idx)
  have e : ((cfg2.win 4).blk (ptOf (i 0))).view.emb (ix2 (n0 := 256) (n1 := 1) (rowOf (i 0)) (i 1) : S256x1.Idx) = i := by
    rw [emb2_4]
    funext a; apply Fin.ext
    match a with
    | ⟨0, _⟩ => show (i 0).val / 256 * 256 + (i 0).val % 256 = (i 0).val; omega
    | ⟨1, _⟩ => rfl
  rwa [e] at h

/-- The first result array at the region's exit. -/
theorem final2_3 (c : Dev nD) : (dat2 V c).arrAt 3 cfg2.N = arrX (V c main_arg1) (V c main_arg0) (V c main_v2) (V c main_v0) :=
  (dat2 V c).arrAt_eq_of_cover 3 _ (fun t _ => flushed2_3 V c t) covered2_3

/-- The second. -/
theorem final2_4 (c : Dev nD) : (dat2 V c).arrAt 4 cfg2.N = arrL (V c main_arg1) (V c main_arg0) (V c main_v2) (V c main_v0) :=
  (dat2 V c).arrAt_eq_of_cover 4 _ (fun t _ => flushed2_4 V c t) covered2_4

end Cert.KernelIdeal.Tile

end
-- ==== Proof.ArraysPrep.lean ====
/- What the two permuting regions leave in their result arrays, and the two host reshapes. -/
module

public import proofs.«01_k».proof.Proof.ArraysTile
public import proofs.«01_k».proof.Proof.Ideal.Whole

@[expose] public section

set_option maxRecDepth 16384

noncomputable section

namespace Cert.KernelIdeal.Tile

open Idealize.ShloMosaic hiding ix1 ix2 ix3 eq_ix1 eq_ix2 eq_ix3
open Idealize.ShloMosaic.TcCoe Idealize.ShloMosaic.Tactic Idealize.ShloMosaic.ValueIdx Idealize.ShloMosaic.Pipeline
open Idealize.SL Idealize.SL.RA Idealize.SL.BI
open Cert.KernelIdeal.Gen

variable {F : FTy → Type} [FloatOps F]

/-- Where column `q` of the permuted weights comes from. -/
def srcCol (q : Fin 16512) : Fin 16512 := ⟨129 * (q.val % 128) + q.val / 128, by have := q.isLt; omega⟩

/-- The weights with their columns permuted. -/
def permW (w : Vec F S448x16512 .f32) : Vec F S448x16512 .f32 := fun i => w (ix2 (n0 := 448) (n1 := 16512) (i 0) (srcCol (i 1)))
/-- The bias, transposed into planes. -/
def permB (b : Vec F S16512 .f32) : Vec F S129x128 .f32 := fun i =>
  b (ix1 (n := 16512) ⟨129 * (i 1).val + (i 0).val, by
    have : (i 0).val < 129 := (i 0).isLt
    have : (i 1).val < 128 := (i 1).isLt
    omega⟩)

theorem k0_pay1_at (x : Vec F S64x16512 .f32) (j : S64x16512.Idx) :
    k0_pay1 x j = x (ix2 (n0 := 64) (n1 := 16512) (j 0) (srcCol (j 1))) := by
  have h1 : (j 1).val < 16512 := (j 1).isLt
  unfold k0_pay1
  refine (shapeCast_apply _ _ j (ix3 (n0 := 64) (n1 := 129) (n2 := 128) (j 0) ⟨(j 1).val / 128, by omega⟩ ⟨(j 1).val % 128, by omega⟩ : S64x129x128.Idx) ?_).trans ?_
  · rw [Shape.rowMajor_val_three, Shape.rowMajor_val_two]
    show ((j 0).val * 129 + (j 1).val / 128) * 128 + (j 1).val % 128 = (j 0).val * 16512 + (j 1).val
    omega
  refine (transpose_apply _ _ _ _ (ix3 (n0 := 64) (n1 := 128) (n2 := 129) (j 0) ⟨(j 1).val % 128, by omega⟩ ⟨(j 1).val / 128, by omega⟩ : S64x128x129.Idx) ?_).trans ?_
  · intro b
    match b with
    | ⟨0, _⟩ => rfl
    | ⟨1, _⟩ => rfl
    | ⟨2, _⟩ => rfl
  refine shapeCast_apply _ _ _ _ ?_
  rw [Shape.rowMajor_val_three, Shape.rowMajor_val_two]
  show (j 0).val * 16512 + (129 * ((j 1).val % 128) + (j 1).val / 128) = ((j 0).val * 128 + (j 1).val % 128) * 129 + (j 1).val / 128
  omega

theorem k1_pay1_at (x : Vec F S128x129 .f32) (j : S129x128.Idx) :
    k1_pay1 x j = x (ix2 (n0 := 128) (n1 := 129) (j 1) (j 0)) := by
  unfold k1_pay1
  refine (transpose_apply _ _ _ _ (ix2 (n0 := 128) (n1 := 129) (j 1) (j 0) : S128x129.Idx) ?_).trans ?_
  · intro b
    match b with
    | ⟨0, _⟩ => rfl
    | ⟨1, _⟩ => rfl
  exact congrFun (shapeCast_self x _) _

theorem out0_1_eq (x : Vec F S64x16512 .f32) : out0_1 x = k0_pay1 x := by
  unfold out0_1
  rw [View.canon_unit_zero hz2, View.ld_unit_zero hz2]

theorem out1_1_eq (x : Vec F S128x129 .f32) : out1_1 x = k1_pay1 x := by
  unfold out1_1
  rw [View.canon_unit_zero hz2, View.ld_unit_zero hz2]

variable (V : (c : Dev nD) → (b : Ref sig .tc) → Buf (Elt F) ((c : Thread nD τ).loc b))

theorem N0 : cfg0.N = 7 := by decide +kernel
theorem N1 : cfg1.N = 1 := by decide +kernel

theorem index0_0 : ∀ t : Fin cfg0.N, win0_0.index t (0 : Fin 2) = t.val ∧ win0_0.index t (1 : Fin 2) = 0 :=
  (by decide +kernel : ∀ t : Fin grid0.N, _)
theorem index0_1 : ∀ t : Fin cfg0.N, win0_1.index t (0 : Fin 2) = t.val ∧ win0_1.index t (1 : Fin 2) = 0 :=
  (by decide +kernel : ∀ t : Fin grid0.N, _)
theorem index1_0 : ∀ t : Fin cfg1.N, win1_0.index t (0 : Fin 2) = 0 ∧ win1_0.index t (1 : Fin 2) = 0 :=
  (by decide +kernel : ∀ t : Fin grid1.N, _)
theorem index1_1 : ∀ t : Fin cfg1.N, win1_1.index t (0 : Fin 2) = 0 ∧ win1_1.index t (1 : Fin 2) = 0 :=
  (by decide +kernel : ∀ t : Fin grid1.N, _)

/-- Where a block of the permuted weights lies. -/
theorem emb0_1 (t : Fin cfg0.N) (j : S64x16512.Idx) : ((cfg0.win 1).blk t).view.emb j
    = (ix2 (n0 := 448) (n1 := 16512) ⟨t.val * 64 + (j 0).val, by
        have : (j 0).val < 64 := (j 0).isLt
        have : t.val < 7 := lt_of_lt_of_eq t.isLt N0
        omega⟩ (j 1) : S448x16512.Idx) := by
  obtain ⟨e0, e1⟩ := index0_1 t
  funext a; apply Fin.ext
  match a with
  | ⟨0, _⟩ => show win0_1.index t (0 : Fin 2) * 64 + 1 * (j 0).val = t.val * 64 + (j 0).val; rw [e0, Nat.one_mul]
  | ⟨1, _⟩ => show win0_1.index t (1 : Fin 2) * 16512 + 1 * (j 1).val = (j 1).val; omega

theorem emb1_1 (t : Fin cfg1.N) (j : S129x128.Idx) : ((cfg1.win 1).blk t).view.emb j = j := by
  obtain ⟨e0, e1⟩ := index1_1 t
  funext a; apply Fin.ext
  match a with
  | ⟨0, _⟩ => show win1_1.index t (0 : Fin 2) * 129 + 1 * (j 0).val = (j 0).val; omega
  | ⟨1, _⟩ => show win1_1.index t (1 : Fin 2) * 128 + 1 * (j 1).val = (j 1).val; omega

theorem iblk0_0_at (c : Dev nD) (t : Fin cfg0.N) (j : S64x16512.Idx) : iblk0 V c 0 t j
    = V c main_arg2 (ix2 (n0 := 448) (n1 := 16512) ⟨t.val * 64 + (j 0).val, by
        have : (j 0).val < 64 := (j 0).isLt
        have : t.val < 7 := lt_of_lt_of_eq t.isLt N0
        omega⟩ (j 1) : S448x16512.Idx) := by
  obtain ⟨e0, e1⟩ := index0_0 t
  show V c main_arg2 (((cfg0.win 0).blk t).view.emb j) = _
  refine congrArg (V c main_arg2) (funext fun a => Fin.ext ?_)
  match a with
  | ⟨0, _⟩ => show win0_0.index t (0 : Fin 2) * 64 + 1 * (j 0).val = t.val * 64 + (j 0).val; rw [e0, Nat.one_mul]
  | ⟨1, _⟩ => show win0_0.index t (1 : Fin 2) * 16512 + 1 * (j 1).val = (j 1).val; omega

theorem iblk1_0_eq (c : Dev nD) (t : Fin cfg1.N) : iblk1 V c 0 t = V c main_v1 := by
  obtain ⟨e0, e1⟩ := index1_0 t
  funext j
  show V c main_v1 (((cfg1.win 0).blk t).view.emb j) = _
  refine congrArg (V c main_v1) (funext fun a => Fin.ext ?_)
  match a with
  | ⟨0, _⟩ => show win1_0.index t (0 : Fin 2) * 128 + 1 * (j 0).val = (j 0).val; omega
  | ⟨1, _⟩ => show win1_0.index t (1 : Fin 2) * 129 + 1 * (j 1).val = (j 1).val; omega

theorem flushed0_1 (c : Dev nD) (t : Fin cfg0.N) : (dat0 V c).flushed 1 t
    = ((cfg0.win 1).blk t).view.read (Elt F) (permW (V c main_arg2)) := by
  have e : (dat0 V c).after 1 t = k0_pay1 (iblk0 V c 0 t) := by rw [after0_1, out0_1_eq]
  show (cfg0.win 1).cut (grid0.coords t) ((dat0 V c).after 1 t) = _
  rw [e]
  funext j
  show k0_pay1 (iblk0 V c 0 t) j = permW _ (((cfg0.win 1).blk t).view.emb j)
  rw [emb0_1, k0_pay1_at, iblk0_0_at]
  rfl

theorem flushed1_1 (c : Dev nD) (t : Fin cfg1.N) : (dat1 V c).flushed 1 t
    = ((cfg1.win 1).blk t).view.read (Elt F) (k1_pay1 (V c main_v1)) := by
  have e : (dat1 V c).after 1 t = k1_pay1 (V c main_v1) := by rw [after1_1, out1_1_eq, iblk1_0_eq]
  show (cfg1.win 1).cut (grid1.coords t) ((dat1 V c).after 1 t) = _
  rw [e]
  funext j
  show k1_pay1 (V c main_v1) j = k1_pay1 (V c main_v1) (((cfg1.win 1).blk t).view.emb j)
  rw [emb1_1]

theorem flush0_1' : ∀ t : Fin cfg0.N, (cfg0.win 1).flush t = true := (by decide +kernel : ∀ t : Fin grid0.N, _)
theorem flush1_1' : ∀ t : Fin cfg1.N, (cfg1.win 1).flush t = true := (by decide +kernel : ∀ t : Fin grid1.N, _)

theorem covered0_1 (i : S448x16512.Idx) : ∃ t : Fin cfg0.N, (cfg0.win 1).flush t = true ∧ i ∈ ((cfg0.win 1).blk t).view.set := by
  have h0 : (i 0).val < 448 := (i 0).isLt
  let t : Fin cfg0.N := ⟨(i 0).val / 64, lt_of_lt_of_eq (by omega) N0.symm⟩
  refine ⟨t, flush0_1' _, ?_⟩
  have h := ((cfg0.win 1).blk t).view.emb_mem_set (ix2 (n0 := 64) (n1 := 16512) ⟨(i 0).val % 64, by omega⟩ (i 1) : S64x16512.Idx)
  have e : ((cfg0.win 1).blk t).view.emb (ix2 (n0 := 64) (n1 := 16512) ⟨(i 0).val % 64, by omega⟩ (i 1) : S64x16512.Idx) = i := by
    rw [emb0_1]
    funext a; apply Fin.ext
    match a with
    | ⟨0, _⟩ => show (i 0).val / 64 * 64 + (i 0).val % 64 = (i 0).val; omega
    | ⟨1, _⟩ => rfl
  rwa [e] at h

theorem covered1_1 (i : S129x128.Idx) : ∃ t : Fin cfg1.N, (cfg1.win 1).flush t = true ∧ i ∈ ((cfg1.win 1).blk t).view.set := by
  let t : Fin cfg1.N := ⟨0, lt_of_lt_of_eq (by omega) N1.symm⟩
  refine ⟨t, flush1_1' _, ?_⟩
  have h := ((cfg1.win 1).blk t).view.emb_mem_set i
  rwa [emb1_1] at h

theorem final0_1 (c : Dev nD) : (dat0 V c).arrAt 1 cfg0.N = permW (V c main_arg2) :=
  (dat0 V c).arrAt_eq_of_cover 1 _ (fun t _ => flushed0_1 V c t) covered0_1

theorem final1_1 (c : Dev nD) : (dat1 V c).arrAt 1 cfg1.N = k1_pay1 (V c main_v1) :=
  (dat1 V c).arrAt_eq_of_cover 1 _ (fun t _ => flushed1_1 V c t) covered1_1

variable (m : (ℓ : Loc nD τ sig) → Buf (Elt F) ℓ) (ρ : Dev nD → PrngReg)

theorem W2_v1 (c : Dev nD) : W2 m ρ c (Proc.devRef .tc main_v1)
    = shapeCast S128x129 (m ((c : Thread nD τ).loc main_arg3)) shapeCasts_S16512_S128x129 := by
  have h : W1 m ρ c (Proc.devRef .tc main_arg3) = m ((c : Thread nD τ).loc main_arg3) := W1_args m ρ c main_arg3 (by decide)
  rw [← h]
  rfl

/-- The bias in planes is the bias, permuted. -/
theorem planes_b (b : Vec F S16512 .f32) : k1_pay1 (shapeCast S128x129 b shapeCasts_S16512_S128x129) = permB b := by
  funext j
  rw [k1_pay1_at]; unfold permB
  refine shapeCast_apply _ _ _ _ ?_
  rw [Shape.rowMajor_val_two, Shape.rowMajor_val_one]
  show 129 * (j 1).val + (j 0).val = (j 1).val * 129 + (j 0).val
  omega

/-- The four operands of the tile region, at its entry. -/
theorem V3_v2 (c : Dev nD) : V3 m ρ c main_v2 = permB (m ((c : Thread nD τ).loc main_arg3)) := by
  have h := (W3_arr m ρ c 1).trans (final1_1 (V2 m ρ) c)
  refine h.trans ?_
  rw [show V2 m ρ c main_v1 = shapeCast S128x129 (m ((c : Thread nD τ).loc main_arg3)) shapeCasts_S16512_S128x129 from W2_v1 m ρ c]
  exact planes_b _

theorem V3_v0 (c : Dev nD) : V3 m ρ c main_v0 = permW (m ((c : Thread nD τ).loc main_arg2)) := by
  have h1 : W3 m ρ c (Proc.devRef .tc main_v0) = W2 m ρ c (Proc.devRef .tc main_v0) := W3_of m ρ c main_v0 (by decide)
  have h2 : W2 m ρ c (Proc.devRef .tc main_v0) = W1 m ρ c (Proc.devRef .tc main_v0) := W2_of m ρ c main_v0 (by decide)
  exact (h1.trans h2).trans ((W1_arr m ρ c 1).trans (final0_1 (V0 m ρ) c))

theorem V3_arg0 (c : Dev nD) : V3 m ρ c main_arg0 = m ((c : Thread nD τ).loc main_arg0) := W3_args m ρ c main_arg0 (by decide)
theorem V3_arg1 (c : Dev nD) : V3 m ρ c main_arg1 = m ((c : Thread nD τ).loc main_arg1) := W3_args m ρ c main_arg1 (by decide)

/-- The first result at the end of the program. -/
theorem W5_v3_0 (c : Dev nD) : W5 m ρ c (Proc.devRef .tc main_v3_0)
    = arrX (m ((c : Thread nD τ).loc main_arg1)) (m ((c : Thread nD τ).loc main_arg0))
        (permB (m ((c : Thread nD τ).loc main_arg3))) (permW (m ((c : Thread nD τ).loc main_arg2))) := by
  have h1 : W5 m ρ c (Proc.devRef .tc main_v3_0) = W4 m ρ c (Proc.devRef .tc main_v3_0) := W5_of m ρ c main_v3_0 (by decide)
  refine h1.trans ((W4_arr m ρ c 3).trans ((final2_3 (V3 m ρ) c).trans ?_))
  rw [V3_v2, V3_v0, V3_arg0, V3_arg1]

theorem drop_col (x : Vec F S4096x1 .f32) : shapeCast S4096 x shapeCasts_S4096x1_S4096
    = fun i : S4096.Idx => x (ix2 (n0 := 4096) (n1 := 1) (i 0) 0) := by
  funext i
  refine shapeCast_apply _ _ _ _ ?_
  rw [Shape.rowMajor_val_two, Shape.rowMajor_val_one]
  show (i 0).val * 1 + 0 = (i 0).val
  omega

/-- The second. -/
theorem W5_v4 (c : Dev nD) : W5 m ρ c (Proc.devRef .tc main_v4)
    = fun i : S4096.Idx => arrL (m ((c : Thread nD τ).loc main_arg1)) (m ((c : Thread nD τ).loc main_arg0))
        (permB (m ((c : Thread nD τ).loc main_arg3))) (permW (m ((c : Thread nD τ).loc main_arg2))) (ix2 (n0 := 4096) (n1 := 1) (i 0) 0) := by
  have h4 : W4 m ρ c (Proc.devRef .tc main_v3_1) = arrL (m ((c : Thread nD τ).loc main_arg1)) (m ((c : Thread nD τ).loc main_arg0))
        (permB (m ((c : Thread nD τ).loc main_arg3))) (permW (m ((c : Thread nD τ).loc main_arg2))) := by
    refine (W4_arr m ρ c 4).trans ((final2_4 (V3 m ρ) c).trans ?_)
    rw [V3_v2, V3_v0, V3_arg0, V3_arg1]
  have h5 : W5 m ρ c (Proc.devRef .tc main_v4) = shapeCast S4096 (W4 m ρ c (Proc.devRef .tc main_v3_1)) shapeCasts_S4096x1_S4096 := rfl
  rw [h5, h4]
  exact drop_col _

end Cert.KernelIdeal.Tile

end
-- ==== Proof.Spline.lean ====
/- The spline's arithmetic over the reals: one element's bins from its 129 parameters, the bin its input falls in, and what the
   two programs compute in it. -/
module

public import Mathlib.Analysis.SpecialFunctions.Log.Basic
public import Mathlib.Data.Nat.Count
public import Mathlib.Algebra.BigOperators.Intervals
public import Mathlib.Algebra.BigOperators.Field
public import Mathlib.Tactic.Linarith
public import Mathlib.Tactic.FieldSimp
public import Mathlib.Tactic.Ring
public import Mathlib.Tactic.NormNum

@[expose] public section

noncomputable section

namespace Cert.Spline

open Finset

/-- The least width and height of a bin, as the programs' f32 literal holds it. -/
abbrev cMin : ℝ := 8589935 / 8589934592
/-- What the softmax of the widths is scaled by. -/
abbrev cW : ℝ := 7851737 / 8388608
/-- What the normalised heights are scaled by. -/
abbrev cH : ℝ := 16760439 / 16777216
/-- What the reference adds to the last edge before counting. -/
abbrev cEps : ℝ := 8796093 / 8796093022208

variable (y : ℕ → ℝ) (x : ℝ)

/-- The exponential of width parameter `p`. -/
def E (p : ℕ) : ℝ := Real.exp (y (65 + p))
/-- The softmax's denominator. -/
def S : ℝ := ∑ p ∈ range 64, E y p
/-- Bin `p`'s width. -/
def w (p : ℕ) : ℝ := cMin + E y p * (cW / S y)
/-- Knot `p`'s height before it is normalised. -/
def he (p : ℕ) : ℝ := Real.log (1 + Real.exp (y p)) + cMin
/-- Twice the area under the unnormalised heights. -/
def area : ℝ := ∑ p ∈ range 64, (he y p + he y (p + 1)) * w y p
/-- Knot `p`'s height. -/
def h (p : ℕ) : ℝ := cMin + he y p * (cH / (1 / 2 * area y))
/-- Bin `k`'s left edge. -/
def loc (k : ℕ) : ℝ := ∑ p ∈ range k, w y p
/-- The distribution function at bin `k`'s left edge. -/
def cdf (k : ℕ) : ℝ := ∑ p ∈ range k, (h y p + h y (p + 1)) * (1 / 2 * w y p)

open Classical in
/-- The bin `x` falls in: how many of the 63 inner edges are at or below it. -/
def bin : ℕ := Nat.count (fun q => loc y (q + 1) ≤ x) 63

/-- Where `x` lies in its bin, in bin widths. -/
def alpha : ℝ := (x - loc y (bin y x)) / w y (bin y x)
/-- The rise of the height over the bin. -/
def dh : ℝ := h y (bin y x + 1) - h y (bin y x)
/-- The spline's value before it is clipped. -/
def out : ℝ := (1 / 2 * dh y x * w y (bin y x) * alpha y x + h y (bin y x) * w y (bin y x)) * alpha y x + cdf y (bin y x)
/-- The spline's slope, whose logarithm is summed. -/
def slope : ℝ := alpha y x * dh y x + h y (bin y x)

theorem E_pos (p : ℕ) : 0 < E y p := Real.exp_pos _

theorem S_pos : 0 < S y := sum_pos (fun p _ => E_pos y p) ⟨0, by simp⟩

theorem w_ge (p : ℕ) : cMin ≤ w y p := by
  have : 0 ≤ E y p * (cW / S y) := mul_nonneg (E_pos y p).le (div_nonneg (by norm_num) (S_pos y).le)
  unfold w; linarith

theorem w_pos (p : ℕ) : 0 < w y p := lt_of_lt_of_le (by norm_num) (w_ge y p)

theorem he_pos (p : ℕ) : 0 < he y p := by
  have : 0 < Real.log (1 + Real.exp (y p)) := Real.log_pos (by linarith [Real.exp_pos (y p)])
  unfold he; have : (0:ℝ) < cMin := by norm_num
  linarith

theorem area_pos : 0 < area y :=
  sum_pos (fun p _ => mul_pos (add_pos (he_pos y p) (he_pos y _)) (w_pos y p)) ⟨0, by simp⟩

theorem loc_succ (k : ℕ) : loc y (k + 1) = loc y k + w y k := sum_range_succ _ _

theorem loc_nonneg (k : ℕ) : 0 ≤ loc y k := sum_nonneg fun p _ => (w_pos y p).le

theorem loc_succ_pos (k : ℕ) : 0 < loc y (k + 1) := by
  rw [loc_succ]; linarith [loc_nonneg y k, w_pos y k]

theorem loc_mono {a b : ℕ} (hab : a ≤ b) : loc y a ≤ loc y b :=
  sum_le_sum_of_subset_of_nonneg (range_mono hab) fun p _ _ => (w_pos y p).le

theorem loc_all : loc y 64 = 64 * cMin + cW := by
  unfold loc w
  rw [sum_add_distrib, ← sum_mul, sum_const, card_range, show ∑ i ∈ range 64, E y i = S y from rfl,
    mul_div_cancel₀ _ (S_pos y).ne']
  simp

/-- The last inner edge is below the last edge the reference counts with. -/
theorem loc_last : loc y 63 ≤ 1 + cEps := by
  have h1 := loc_succ y 63
  rw [loc_all] at h1
  have h2 := w_ge y 63
  have : 63 * cMin + cW ≤ 1 + cEps := by norm_num
  linarith

theorem bin_le : bin y x ≤ 63 := Nat.count_le ..

/-- A run of selections by a condition that never comes back once it fails ends at the value numbered by how often it held. -/
theorem fold_select {α : Type*} (P : ℕ → Prop) [DecidablePred P] (hP : ∀ q, P (q + 1) → P q) (g : ℕ → α) (n : ℕ) :
    (Nat.rec (g 0) (fun q r => if P q then g (q + 1) else r) n : α) = g (Nat.count P n) := by
  have all : ∀ n, P n → Nat.count P n = n := fun n => by
    induction n with
    | zero => intro _; rfl
    | succ n ih => intro hn; rw [Nat.count_succ, ih (hP n hn), if_pos (hP n hn)]
  induction n with
  | zero => rfl
  | succ n ih =>
    show (if P n then g (n + 1) else _) = _
    rw [Nat.count_succ]
    split
    · next hn => rw [all n hn]
    · next hn => rw [ih, Nat.add_zero]

open Classical in
/-- The kernel's run of selections, over the real edges. -/
theorem fold_bin {α : Type*} (g : ℕ → α) :
    (Nat.rec (g 0) (fun q r => if loc y (q + 1) ≤ x then g (q + 1) else r) 63 : α) = g (bin y x) :=
  fold_select _ (fun q hq => (loc_mono y (Nat.le_succ _)).trans hq) g 63

/-- The edges the reference counts with. -/
def edge (p : ℕ) : ℝ := if p < 64 then loc y p else 1 + cEps

open Classical in
/-- The reference's clipped count of the edges at or below `x` is the bin. -/
theorem count_edge : min (Nat.count (fun p => edge y p ≤ x) 65 - 1) 63 = bin y x := by
  have hb := bin_le y x
  have h0 : Nat.count (fun p => edge y p ≤ x) 65
      = (if (0 : ℝ) ≤ x then 1 else 0) + bin y x + (if 1 + cEps ≤ x then 1 else 0) := by
    rw [Nat.count_succ, show (64 : ℕ) = 1 + 63 from rfl, Nat.count_add]
    have e1 : Nat.count (fun p => edge y p ≤ x) 1 = if (0 : ℝ) ≤ x then 1 else 0 := by
      rw [Nat.count_succ, Nat.count_zero, Nat.zero_add]
      have : edge y 0 = 0 := by simp [edge, loc]
      rw [this]
    have e2 : Nat.count (fun k => edge y (1 + k) ≤ x) 63 = bin y x := by
      unfold bin
      rw [Nat.count_eq_card_filter_range, Nat.count_eq_card_filter_range]
      refine congrArg Finset.card (filter_congr fun q hq => ?_)
      have : q < 63 := mem_range.1 hq
      have : edge y (1 + q) = loc y (q + 1) := by
        unfold edge; rw [if_pos (by omega), Nat.add_comm]
      rw [this]
    have e3 : edge y (1 + 63) = 1 + cEps := by simp [edge]
    rw [e1, e2, e3]
  rw [h0]
  by_cases hx : (0 : ℝ) ≤ x
  · rw [if_pos hx]
    by_cases hl : 1 + cEps ≤ x
    · have : bin y x = 63 := by
        unfold bin
        rw [Nat.count_eq_card_filter_range, filter_true_of_mem, card_range]
        intro q hq
        have : q < 63 := mem_range.1 hq
        exact (loc_mono y (by omega : q + 1 ≤ 63)).trans ((loc_last y).trans hl)
      rw [if_pos hl, this]; rfl
    · rw [if_neg hl]; omega
  · have : bin y x = 0 := by
      unfold bin
      rw [Nat.count_eq_card_filter_range, filter_false_of_mem, card_empty]
      intro q _ hq
      exact hx ((loc_succ_pos y q).le.trans hq)
    rw [if_neg hx, this]
    have : ¬ 1 + cEps ≤ x := fun h1 => hx (le_trans (by norm_num) h1)
    rw [if_neg this]
    rfl

/-! ### The reference's spellings -/

/-- The softmax with any shift taken off its exponents. -/
theorem w_shift (M : ℝ) (p : ℕ) :
    cMin + cW * (Real.exp (y (65 + p) - M) / ∑ q ∈ range 64, Real.exp (y (65 + q) - M)) = w y p := by
  have hs : ∑ q ∈ range 64, Real.exp (y (65 + q) - M) = S y / Real.exp M := by
    simp only [Real.exp_sub]
    rw [← Finset.sum_div]; rfl
  have hM := (Real.exp_pos M).ne'
  have hS := (S_pos y).ne'
  rw [hs, Real.exp_sub]
  unfold w E
  field_simp

/-- The stable form of the softplus. -/
theorem softplus_eq (t : ℝ) : max t 0 + Real.log (1 + Real.exp (-|t|)) = Real.log (1 + Real.exp t) := by
  rcases le_total 0 t with ht | ht
  · rw [max_eq_left ht, abs_of_nonneg ht]
    have h1 : 1 + Real.exp t = Real.exp t * (1 + Real.exp (-t)) := by
      rw [mul_add, mul_one, ← Real.exp_add, add_neg_cancel, Real.exp_zero]; ring
    rw [h1, Real.log_mul (Real.exp_pos t).ne' (by positivity), Real.log_exp]
  · rw [max_eq_right ht, abs_of_nonpos ht, neg_neg, zero_add]

/-- The reference's area, half of `area`. -/
theorem area_half : ∑ p ∈ range 64, (he y p + he y (p + 1)) / 2 * w y p = 1 / 2 * area y := by
  unfold area
  rw [mul_sum]
  exact sum_congr rfl fun p _ => by ring

theorem half_area_pos : 0 < 1 / 2 * area y := by linarith [area_pos y]

/-- The reference's heights. -/
theorem h_ref (p : ℕ) : cMin + cH * (he y p / (1 / 2 * area y)) = h y p := by
  unfold h; ring

/-- The reference's sum to a bin's left edge. -/
theorem cdf_ref (k : ℕ) : ∑ p ∈ range k, (h y p + h y (p + 1)) / 2 * w y p = cdf y k := by
  unfold cdf
  exact sum_congr rfl fun p _ => by ring

/-- The reference's polynomial. -/
theorem out_ref : 1 / 2 * dh y x * w y (bin y x) * (alpha y x * alpha y x) + h y (bin y x) * w y (bin y x) * alpha y x
    + cdf y (bin y x) = out y x := by
  unfold out; ring

end Cert.Spline

end
-- ==== Proof.Num.lean ====
/- The ideal operations at real numbers. -/
module

public import Idealize.ShloMosaic.PureOps.Ideal
public import Idealize.ShloMosaic.PureOps.Ideal.Laws
public import proofs.«01_k».proof.Proof.Spline

@[expose] public section

noncomputable section

namespace Cert.Num

open Idealize.ShloMosaic

theorem add' (a b : ℝ) : ((a : EReal) + (b : EReal)) = ((a + b : ℝ) : EReal) := (EReal.coe_add a b).symm
theorem sub' (a b : ℝ) : ((a : EReal) - (b : EReal)) = ((a - b : ℝ) : EReal) := (EReal.coe_sub a b).symm
theorem mul' (a b : ℝ) : ((a : EReal) * (b : EReal)) = ((a * b : ℝ) : EReal) := (EReal.coe_mul a b).symm

theorem div' (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp' (a : ℝ) : Ideal.exp (a : EReal) = ((Real.exp a : ℝ) : EReal) := rfl

theorem log' (a : ℝ) (ha : 0 < a) : Ideal.log (a : EReal) = ((Real.log a : ℝ) : EReal) := by
  show (if a ≤ 0 then (⊥ : EReal) else ((Real.log a : ℝ) : EReal)) = _
  rw [if_neg (not_le.mpr ha)]

theorem log1p' (a : ℝ) (ha : 0 < 1 + a) : Ideal.log1p (a : EReal) = ((Real.log (1 + a) : ℝ) : EReal) := by
  unfold Ideal.log1p
  rw [← EReal.coe_one, add', log' _ ha]

theorem max' (a b : ℝ) : max (a : EReal) (b : EReal) = ((max a b : ℝ) : EReal) := (EReal.coe_strictMono.monotone.map_max).symm
theorem min' (a b : ℝ) : min (a : EReal) (b : EReal) = ((min a b : ℝ) : EReal) := (EReal.coe_strictMono.monotone.map_min).symm

theorem sum' {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, add']

theorem oge' (a b : ℝ) : Ideal.cmp .oge (a : EReal) (b : EReal) = if b ≤ a then 1#1 else 0#1 := by
  unfold Ideal.cmp
  by_cases h : b ≤ a <;> simp [h]

theorem lMin : Ideal.ofBits .f32 0x3A83126F#32 = ((Spline.cMin : ℝ) : EReal) := by
  simp [Ideal.ofBits, Ideal.ieee, -EReal.coe_mul]; norm_num
theorem lW : Ideal.ofBits .f32 0x3F6F9DB2#32 = ((Spline.cW : ℝ) : EReal) := by
  simp [Ideal.ofBits, Ideal.ieee, -EReal.coe_mul]; norm_num
theorem lH : Ideal.ofBits .f32 0x3F7FBE77#32 = ((Spline.cH : ℝ) : EReal) := by
  simp [Ideal.ofBits, Ideal.ieee, -EReal.coe_mul]; norm_num
theorem lEps : Ideal.ofBits .f32 0x358637BD#32 = ((Spline.cEps : ℝ) : EReal) := by
  simp [Ideal.ofBits, Ideal.ieee, -EReal.coe_mul]; norm_num
theorem lHalf : Ideal.ofBits .f32 0x3F000000#32 = ((1 / 2 : ℝ) : EReal) := by
  simp [Ideal.ofBits, Ideal.ieee, -EReal.coe_mul]; norm_num
theorem lOne : Ideal.ofBits .f32 0x3F800000#32 = ((1 : ℝ) : EReal) := by
  simp [Ideal.ofBits, Ideal.ieee, -EReal.coe_mul]; try norm_num
theorem lTwo : Ideal.ofBits .f32 0x40000000#32 = ((2 : ℝ) : EReal) := by
  simp [Ideal.ofBits, Ideal.ieee, -EReal.coe_mul]; norm_num
theorem lZero : Ideal.ofBits .f32 0x00000000#32 = ((0 : ℝ) : EReal) := by
  simp [Ideal.ofBits, Ideal.ieee, -EReal.coe_mul]; try norm_num
theorem lInf : Ideal.ofBits .f32 0x7F800000#32 = ⊤ := by simp [Ideal.ofBits, Ideal.ieee]
theorem lNegInf : Ideal.ofBits .f32 0xFF800000#32 = ⊥ := by simp [Ideal.ofBits, Ideal.ieee]

end Cert.Num

end
-- ==== Proof.PlanesVal.lean ====
/- The families of Planes.lean at one element, over the extended reals: with real parameters and a real `x` they are the
   spline's numbers. -/
module

public import proofs.«01_k».proof.Proof.Planes
public import proofs.«01_k».proof.Proof.Num

@[expose] public section

set_option maxRecDepth 16384

noncomputable section

namespace Cert.KernelIdeal.Planes

open Idealize.ShloMosaic Idealize.ShloMosaic.TcCoe
open Cert.KernelIdeal.Gen Finset

theorem sum_pairs {M : Type*} [AddCommMonoid M] (g : ℕ → M) (m : ℕ) :
    ∑ p ∈ range (2 * m), g p = ∑ i ∈ range m, (g (2 * i) + g (2 * i + 1)) := by
  induction m with
  | zero => rfl
  | succ m ih =>
    rw [show 2 * (m + 1) = 2 * m + 1 + 1 from by ring, sum_range_succ, sum_range_succ, ih, sum_range_succ, add_assoc]

theorem tsum_apply (n : ℕ) : ∀ (f : ℕ → Blk Ideal) (i : S256x128.Idx), tsum n f i = ∑ p ∈ range (2 ^ n), (f p i : EReal) := by
  induction n with
  | zero => intro f i; exact (Finset.sum_range_one fun p => (f p i : EReal)).symm
  | succ n ih =>
    intro f i
    rw [pow_succ, mul_comm, sum_pairs]
    exact ih (fun i => addf (f (2 * i)) (f (2 * i + 1))) i

theorem tsum_real (n : ℕ) (f : ℕ → Blk Ideal) (i : S256x128.Idx) (r : ℕ → ℝ) (h : ∀ p, f p i = ((r p : ℝ) : EReal)) :
    tsum n f i = ((∑ p ∈ range (2 ^ n), r p : ℝ) : EReal) := by
  rw [tsum_apply, ← Num.sum']
  exact sum_congr rfl fun p _ => h p

section

variable (y : FVec Ideal S256x16512 .f32) (b : ℕ → Vec Ideal S1x128 .f32) (x : Blk Ideal) (i : S256x128.Idx)
variable (Y : ℕ → ℝ) (X : ℝ) (hY : ∀ p, plane y b p i = ((Y p : ℝ) : EReal)) (hX : x i = ((X : ℝ) : EReal))

include hY in
theorem ex_at (p : ℕ) : ex y b p i = ((Spline.E Y p : ℝ) : EReal) := by
  show Ideal.exp (plane y b (65 + p) i) = _
  rw [hY]; rfl

include hY in
theorem wscale_at : wscale y b i = ((Spline.cW / Spline.S Y : ℝ) : EReal) := by
  show Ideal.div (Ideal.ofBits .f32 0x3F6F9DB2#32) (tsum 6 (ex y b) i) = _
  rw [tsum_real 6 _ i _ (ex_at y b i Y hY), Num.lW]
  exact Num.div' _ _ (Spline.S_pos Y).ne'

include hY in
theorem w_at (p : ℕ) : w y b p i = ((Spline.w Y p : ℝ) : EReal) := by
  show (Ideal.ofBits .f32 0x3A83126F#32 : EReal) + (ex y b p i : EReal) * (wscale y b i : EReal) = _
  rw [ex_at y b i Y hY, wscale_at y b i Y hY, Num.lMin, Num.mul', Num.add']; rfl

include hY in
theorem he_at (p : ℕ) : he y b p i = ((Spline.he Y p : ℝ) : EReal) := by
  show Ideal.log1p (Ideal.exp (plane y b p i)) + (Ideal.ofBits .f32 0x3A83126F#32 : EReal) = _
  rw [hY, Num.exp', Num.log1p' _ (by positivity), Num.lMin, Num.add']; rfl

include hY in
theorem area_at : area y b i = ((Spline.area Y : ℝ) : EReal) :=
  tsum_real 6 _ i (fun p => (Spline.he Y p + Spline.he Y (p + 1)) * Spline.w Y p) fun p => by
    show ((he y b p i : EReal) + he y b (p + 1) i) * (w y b p i : EReal) = _
    rw [he_at y b i Y hY, he_at y b i Y hY, w_at y b i Y hY, Num.add', Num.mul']

include hY in
theorem h_at (p : ℕ) : h y b p i = ((Spline.h Y p : ℝ) : EReal) := by
  show (Ideal.ofBits .f32 0x3A83126F#32 : EReal) + (he y b p i : EReal)
    * Ideal.div (Ideal.ofBits .f32 0x3F7FBE77#32) ((Ideal.ofBits .f32 0x3F000000#32 : EReal) * (area y b i : EReal)) = _
  rw [he_at y b i Y hY, area_at y b i Y hY, Num.lMin, Num.lH, Num.lHalf, Num.mul',
    Num.div' _ _ (Spline.half_area_pos Y).ne', Num.mul', Num.add']; rfl

include hY in
theorem run_at (q : ℕ) : run y b q i = ((Spline.loc Y (q + 1) : ℝ) : EReal) := by
  induction q with
  | zero => exact (w_at y b i Y hY 0).trans (congrArg _ (Finset.sum_range_one _).symm)
  | succ q ih =>
    show (run y b q i : EReal) + (w y b (q + 1) i : EReal) = _
    rw [ih, w_at y b i Y hY, Num.add', ← Spline.loc_succ]

include hY in
theorem hm_at (q : ℕ) : hm y b q i
    = (((Spline.h Y q + Spline.h Y (q + 1)) * (1 / 2 * Spline.w Y q) : ℝ) : EReal) := by
  show ((h y b q i : EReal) + h y b (q + 1) i) * ((Ideal.ofBits .f32 0x3F000000#32 : EReal) * (w y b q i : EReal)) = _
  rw [h_at y b i Y hY, h_at y b i Y hY, w_at y b i Y hY, Num.lHalf, Num.add', Num.mul', Num.mul']

include hY in
theorem runcdf_at (q : ℕ) : runcdf y b q i = ((Spline.cdf Y (q + 1) : ℝ) : EReal) := by
  induction q with
  | zero =>
    exact (hm_at y b i Y hY 0).trans (congrArg _ (Finset.sum_range_one fun p =>
      (Spline.h Y p + Spline.h Y (p + 1)) * (1 / 2 * Spline.w Y p)).symm)
  | succ q ih =>
    show (runcdf y b q i : EReal) + (hm y b (q + 1) i : EReal) = _
    rw [ih, hm_at y b i Y hY, Num.add']
    exact congrArg _ (Finset.sum_range_succ _ _).symm

theorem front_at (g : ℕ → Blk Ideal) (G : ℕ → ℝ) (h0 : G 0 = 0) (hg : ∀ q, g q i = ((G (q + 1) : ℝ) : EReal)) (k : ℕ) :
    front g k i = ((G k : ℝ) : EReal) := by
  cases k with
  | zero => rw [h0]; exact Num.lZero
  | succ q => exact hg q

include hY hX in
open Classical in
theorem sel_at (g : ℕ → Blk Ideal) (G : ℕ → ℝ) (hg : ∀ q, g q i = ((G q : ℝ) : EReal)) :
    sel y b x g i = ((G (Spline.bin Y X) : ℝ) : EReal) := by
  rw [← Spline.fold_bin Y X G]
  unfold sel
  generalize (63 : ℕ) = n
  induction n with
  | zero => exact hg 0
  | succ n ih =>
    show Scalar.select (Ideal.cmp .oge (x i) (run y b n i)) (g (n + 1) i) _ = _
    rw [hX, run_at y b i Y hY, Num.oge', hg, ih]
    by_cases hle : Spline.loc Y (n + 1) ≤ X
    · rw [if_pos hle]; simp only [if_pos hle]; rfl
    · rw [if_neg hle]; simp only [if_neg hle]; rfl

include hY hX in
theorem bloc_at : bloc y b x i = ((Spline.loc Y (Spline.bin Y X) : ℝ) : EReal) :=
  sel_at y b x i Y X hY hX _ _ (front_at i _ _ rfl (run_at y b i Y hY))
include hY hX in
theorem lcdf_at : lcdf y b x i = ((Spline.cdf Y (Spline.bin Y X) : ℝ) : EReal) :=
  sel_at y b x i Y X hY hX _ _ (front_at i _ _ rfl (runcdf_at y b i Y hY))
include hY hX in
theorem wsel_at : wsel y b x i = ((Spline.w Y (Spline.bin Y X) : ℝ) : EReal) :=
  sel_at y b x i Y X hY hX _ _ (w_at y b i Y hY)
include hY hX in
theorem lh_at : lh y b x i = ((Spline.h Y (Spline.bin Y X) : ℝ) : EReal) :=
  sel_at y b x i Y X hY hX _ _ (h_at y b i Y hY)
include hY hX in
theorem rh_at : rh y b x i = ((Spline.h Y (Spline.bin Y X + 1) : ℝ) : EReal) :=
  sel_at y b x i Y X hY hX _ (fun k => Spline.h Y (k + 1)) fun k => h_at y b i Y hY (k + 1)

include hY hX in
theorem alpha_at : alpha y b x i = ((Spline.alpha Y X : ℝ) : EReal) := by
  show Ideal.div ((x i : EReal) - (bloc y b x i : EReal)) (wsel y b x i) = _
  rw [hX, bloc_at y b x i Y X hY hX, wsel_at y b x i Y X hY hX, Num.sub', Num.div' _ _ (Spline.w_pos Y _).ne']; rfl

include hY hX in
theorem dh_at : dh y b x i = ((Spline.dh Y X : ℝ) : EReal) := by
  show (rh y b x i : EReal) - (lh y b x i : EReal) = _
  rw [rh_at y b x i Y X hY hX, lh_at y b x i Y X hY hX, Num.sub']; rfl

include hY hX in
theorem out_at : out y b x i = ((Spline.out Y X : ℝ) : EReal) := by
  show ((((Ideal.ofBits .f32 0x3F000000#32 : EReal) * (dh y b x i : EReal)) * (wsel y b x i : EReal)) * (alpha y b x i : EReal)
    + (lh y b x i : EReal) * (wsel y b x i : EReal)) * (alpha y b x i : EReal) + (lcdf y b x i : EReal) = _
  rw [dh_at y b x i Y X hY hX, wsel_at y b x i Y X hY hX, alpha_at y b x i Y X hY hX, lh_at y b x i Y X hY hX,
    lcdf_at y b x i Y X hY hX, Num.lHalf]
  simp only [Num.mul', Num.add']; rfl

include hY hX in
theorem clipped_at : clipped y b x i = ((min 1 (max 0 (Spline.out Y X)) : ℝ) : EReal) := by
  show min (Ideal.ofBits .f32 0x3F800000#32 : EReal) (max (Ideal.ofBits .f32 0x00000000#32 : EReal) (out y b x i : EReal)) = _
  rw [out_at y b x i Y X hY hX, Num.lOne, Num.lZero, Num.max', Num.min']

include hY hX in
theorem slope_at : slope y b x i = ((Spline.slope Y X : ℝ) : EReal) := by
  show (alpha y b x i : EReal) * (dh y b x i : EReal) + (lh y b x i : EReal) = _
  rw [alpha_at y b x i Y X hY hX, dh_at y b x i Y X hY hX, lh_at y b x i Y X hY hX, Num.mul', Num.add']; rfl

end

end Cert.KernelIdeal.Planes

end
-- ==== Proof.LinVal.lean ====
/- The two results as functions of the four argument arrays, in terms no program's text enters. -/
module

public import proofs.«01_k».proof.Proof.Num
public import Idealize.ShloMosaic.Lib.ValueIdx

@[expose] public section

set_option maxRecDepth 16384

noncomputable section

namespace Cert.Lin

open Idealize.ShloMosaic Idealize.ShloMosaic.ValueIdx

/-- A value that is a real number. -/
def IsReal (x : EReal) : Prop := ∃ s : ℝ, x = (s : EReal)

theorem IsReal.coe_toReal {x : EReal} (h : IsReal x) : x = ((x.toReal : ℝ) : EReal) := by
  obtain ⟨s, rfl⟩ := h
  rw [EReal.toReal_coe]
theorem IsReal.add {x y : EReal} (hx : IsReal x) (hy : IsReal y) : IsReal (x + y) := by
  obtain ⟨s, rfl⟩ := hx; obtain ⟨t, rfl⟩ := hy
  exact ⟨_, Num.add' s t⟩
theorem IsReal.mul {x y : EReal} (hx : IsReal x) (hy : IsReal y) : IsReal (x * y) := by
  obtain ⟨s, rfl⟩ := hx; obtain ⟨t, rfl⟩ := hy
  exact ⟨_, Num.mul' s t⟩
theorem IsReal.sum {ι : Type} (s : Finset ι) {f : ι → EReal} (h : ∀ i, IsReal (f i)) : IsReal (∑ i ∈ s, f i) := by
  choose g hg using h
  exact ⟨∑ i ∈ s, g i, by rw [← Num.sum']; exact Finset.sum_congr rfl fun i _ => hg i⟩

/-- Arrays of extended reals. -/
abbrev Arr (s : Shape) := s.Idx → EReal

variable (c : Arr ⟨2, ![4096, 64]⟩) (z : Arr ⟨2, ![4096, 512]⟩) (W : Arr ⟨2, ![448, 16512]⟩) (b : Arr ⟨1, ![16512]⟩)

/-- A row of the layer's input: 384 columns of `z`, then `c`. -/
def row (r : Fin 4096) (k : Fin 448) : EReal :=
  if h : k.val < 384 then z (ix2 (n0 := 4096) (n1 := 512) r ⟨128 + k.val, by omega⟩)
  else c (ix2 (n0 := 4096) (n1 := 64) r ⟨k.val - 384, by have := k.isLt; omega⟩)

/-- The layer's output. -/
def lin (r : Fin 4096) (q : Fin 16512) : EReal :=
  (∑ k : Fin 448, row c z r k * W (ix2 (n0 := 448) (n1 := 16512) k q)) + b (ix1 (n := 16512) q)

/-- Where parameter `p` of dimension `j` is in it. -/
def par (j : Fin 128) (p : ℕ) (hp : p < 129) : Fin 16512 := ⟨129 * j.val + p, by have := j.isLt; omega⟩

/-- The parameters of a spline. -/
def Y (r : Fin 4096) (j : Fin 128) (p : ℕ) : ℝ := if hp : p < 129 then (lin c z W b r (par j p hp)).toReal else 0
/-- What the spline is taken at. -/
def X (r : Fin 4096) (j : Fin 128) : ℝ := (z (ix2 (n0 := 4096) (n1 := 512) r ⟨j.val, by have := j.isLt; omega⟩)).toReal

/-- The first result at an element. -/
def outX (r : Fin 4096) (k : Fin 512) : EReal :=
  if h : k.val < 384 then z (ix2 (n0 := 4096) (n1 := 512) r ⟨128 + k.val, by omega⟩)
  else ((min 1 (max 0 (Spline.out (Y c z W b r ⟨k.val - 384, by have := k.isLt; omega⟩) (X z r ⟨k.val - 384, by have := k.isLt; omega⟩))) : ℝ) : EReal)
/-- The second. -/
def outL (r : Fin 4096) : EReal := ∑ j : Fin 128, Ideal.log ((Spline.slope (Y c z W b r j) (X z r j) : ℝ) : EReal)

variable (hc : ∀ i, IsReal (c i)) (hz : ∀ i, IsReal (z i)) (hW : ∀ i, IsReal (W i)) (hb : ∀ i, IsReal (b i))

include hz in
theorem X_eq (r : Fin 4096) (j : Fin 128) :
    z (ix2 (n0 := 4096) (n1 := 512) r ⟨j.val, by have := j.isLt; omega⟩) = ((X z r j : ℝ) : EReal) := (hz _).coe_toReal

include hc hz hW hb in
theorem Y_eq (r : Fin 4096) (j : Fin 128) (p : ℕ) (hp : p < 129) : lin c z W b r (par j p hp) = ((Y c z W b r j p : ℝ) : EReal) := by
  unfold Y
  rw [dif_pos hp]
  refine IsReal.coe_toReal (IsReal.add (IsReal.sum _ fun k => IsReal.mul ?_ (hW _)) (hb _))
  unfold row
  split
  · exact hz _
  · exact hc _

end Cert.Lin

end
-- ==== Proof.KerEnd.lean ====
/- The kernel's two results at an element. -/
module

public import proofs.«01_k».proof.Proof.ArraysPrep
public import proofs.«01_k».proof.Proof.PlanesVal
public import proofs.«01_k».proof.Proof.LinVal
public import Idealize.ShloMosaic.Lib.MatmulPlain

@[expose] public section

set_option maxRecDepth 16384

noncomputable section

namespace Cert.KernelIdeal.Tile

open Idealize.ShloMosaic hiding ix1 ix2 ix3 eq_ix1 eq_ix2 eq_ix3
open Idealize.ShloMosaic.ValueIdx
open Cert.KernelIdeal.Gen
open Cert.Lin (IsReal)

variable (c : Vec Ideal S4096x64 .f32) (z : Vec Ideal S4096x512 .f32) (W : Vec Ideal S448x16512 .f32) (b : Vec Ideal S16512 .f32)

theorem at_row (r : Fin 4096) (h : (tileOf r).val * 256 + (rowOf r).val < 4096) :
    (⟨(tileOf r).val * 256 + (rowOf r).val, h⟩ : Fin 4096) = r :=
  Fin.ext (Nat.div_add_mod' r.val 256)

theorem zc_at (r : Fin 4096) (k : Fin 448) :
    zc (zrows z (tileOf r)) (crows c (tileOf r)) (ix2 (n0 := 256) (n1 := 448) (rowOf r) k) = Lin.row c z r k := by
  unfold zc Lin.row zrows crows
  by_cases h : k.val < 384
  · rw [dif_pos h]
    refine Eq.trans ?_ (dif_pos h).symm
    refine congrArg z ?_
    exact congrArg (fun q => ix2 (n0 := 4096) (n1 := 512) q _) (at_row r _)
  · rw [dif_neg h]
    refine Eq.trans ?_ (dif_neg h).symm
    refine congrArg c ?_
    exact congrArg (fun q => ix2 (n0 := 4096) (n1 := 64) q _) (at_row r _)

theorem mat_at (r : Fin 4096) (q : Fin 16512) :
    k2_pay4 (zc (zrows z (tileOf r)) (crows c (tileOf r))) (permW W) (ix2 (n0 := 256) (n1 := 16512) (rowOf r) q)
      = ∑ k : Fin 448, Lin.row c z r k * W (ix2 (n0 := 448) (n1 := 16512) k (srcCol q)) := by
  refine (Ideal.matmul_plain_apply none (zc (zrows z (tileOf r)) (crows c (tileOf r))) (permW W) _ (rowOf r) q).trans ?_
  rw [show (constant (F := Ideal) S256x16512 .f32 0x00000000#32) (ix2 (n0 := 256) (n1 := 16512) (rowOf r) q) = (0 : EReal)
    from Num.lZero.trans EReal.coe_zero, zero_add]
  exact Finset.sum_congr rfl fun k _ => congrArg₂ (fun u v : EReal => u * v) (zc_at c z r k) rfl

theorem plane_at (r : Fin 4096) (j : Fin 128) (p : ℕ) (hp : p < 129) :
    Planes.plane (k2_pay4 (zc (zrows z (tileOf r)) (crows c (tileOf r))) (permW W)) (bias (permB b)) p (ix2 (n0 := 256) (n1 := 128) (rowOf r) j)
      = Lin.lin c z W b r (Lin.par j p hp) := by
  have hj := j.isLt
  unfold Planes.plane Lin.lin
  rw [dif_pos hp]
  refine congrArg₂ (fun u v : EReal => u + v) ?_ ?_
  · refine (extractStridedSlice_apply _ _ _ _ (ix2 (n0 := 256) (n1 := 16512) (rowOf r) ⟨128 * p + j.val, by omega⟩) fun a => ?_).trans ?_
    · match a with
      | ⟨0, _⟩ => exact (Nat.zero_add _).symm
      | ⟨1, _⟩ => rfl
    · refine (mat_at c z W r _).trans (Finset.sum_congr rfl fun k _ => congrArg (fun q => Lin.row c z r k * W (ix2 (n0 := 448) (n1 := 16512) k q)) ?_)
      refine Fin.ext ?_
      show 129 * ((128 * p + j.val) % 128) + (128 * p + j.val) / 128 = 129 * j.val + p
      omega
  · refine (broadcastTo_apply _ _ _ (ix2 (n0 := 1) (n1 := 128) 0 j) fun a => ?_).trans ?_
    · match a with
      | ⟨0, _⟩ => rfl
      | ⟨1, _⟩ => rfl
    · rw [shapeCast_self]
      exact dif_pos hp

variable (hc : ∀ i, IsReal (c i)) (hz : ∀ i, IsReal (z i)) (hW : ∀ i, IsReal (W i)) (hb : ∀ i, IsReal (b i))

include hc hz hW hb in
theorem plane_real (r : Fin 4096) (j : Fin 128) (p : ℕ) :
    Planes.plane (k2_pay4 (zc (zrows z (tileOf r)) (crows c (tileOf r))) (permW W)) (bias (permB b)) p (ix2 (n0 := 256) (n1 := 128) (rowOf r) j)
      = ((Lin.Y c z W b r j p : ℝ) : EReal) := by
  by_cases hp : p < 129
  · exact (plane_at c z W b r j p hp).trans (Lin.Y_eq c z W b hc hz hW hb r j p hp)
  · unfold Planes.plane Lin.Y
    rw [dif_neg hp, dif_neg hp]
    exact Num.lZero

include hz in
theorem xs_real (r : Fin 4096) (j : Fin 128) :
    xs (zrows z (tileOf r)) (ix2 (n0 := 256) (n1 := 128) (rowOf r) j) = ((Lin.X z r j : ℝ) : EReal) := by
  refine Eq.trans (congrArg z ?_) (Lin.X_eq z hz r j)
  exact congrArg (fun q => ix2 (n0 := 4096) (n1 := 512) q _) (at_row r _)

include hc hz hW hb in
theorem arrX_real (r : Fin 4096) (k : Fin 512) :
    arrX z c (permB b) (permW W) (ix2 (n0 := 4096) (n1 := 512) r k) = Lin.outX c z W b r k := by
  unfold arrX tileX Lin.outX
  by_cases h : k.val < 384
  · rw [dif_pos h]
    refine Eq.trans ?_ (dif_pos h).symm
    refine congrArg z ?_
    exact congrArg (fun q => ix2 (n0 := 4096) (n1 := 512) q _) (at_row r _)
  · rw [dif_neg h]
    refine Eq.trans ?_ (dif_neg h).symm
    exact (Planes.clipped_at _ _ _ _ _ _ (plane_real c z W b hc hz hW hb r _) (xs_real z hz r _))

include hc hz hW hb in
theorem arrL_real (r : Fin 4096) :
    arrL z c (permB b) (permW W) (ix2 (n0 := 4096) (n1 := 1) r 0) = Lin.outL c z W b r := by
  refine (shapeCast_apply _ _ _ (ix1 (n := 256) (rowOf r)) ?_).trans ?_
  · rw [Shape.rowMajor_val_one, Shape.rowMajor_val_two]
    show (rowOf r).val = (rowOf r).val * 1 + 0
    omega
  · refine (Ideal.multiReduction_add_single _ _ _ _ _ _).trans (Finset.sum_congr rfl fun j _ => ?_)
    refine congrArg Ideal.log (Eq.trans (congrArg _ ?_)
      (Planes.slope_at _ _ _ _ _ _ (plane_real c z W b hc hz hW hb r j) (xs_real z hz r j)))
    funext a
    match a with
    | ⟨0, _⟩ => rfl
    | ⟨1, _⟩ => rfl

end Cert.KernelIdeal.Tile

end
-- ==== Proof.RefOps.lean ====
/- The reference's layout and index operations, read at an element: the scatters, the pad, the running sums, the
   largest element, the count and the takes. -/
module

public import proofs.«01_k».proof.Proof.Gen.ReferenceIdeal.Read
public import Idealize.ShloMosaic.Lib.ReduceAll
public import Idealize.ShloMosaic.Lib.StableHlo.Predicate

@[expose] public section

set_option maxRecDepth 16384

noncomputable section

namespace Cert.ReferenceIdeal.Ops

open Idealize.ShloMosaic Idealize.ShloMosaic.ValueIdx
open Cert.ReferenceIdeal Cert.ReferenceIdeal.Gen

/-- A left fold over functions, watched at one argument that one step alone touches. -/
theorem foldl_hit {I A B : Type} [DecidableEq B] (ι : I) (f : A → A) (b0 : B) (g : (I → A) → B → I → A)
    (h0 : ∀ r, g r b0 ι = f (r ι)) (hn : ∀ b, b ≠ b0 → ∀ r, g r b ι = r ι) (l : List B) (hl : l.Nodup) (x : I → A) :
    l.foldl g x ι = if b0 ∈ l then f (x ι) else x ι := by
  induction l generalizing x with
  | nil => simp
  | cons b l ih =>
    have hd := List.nodup_cons.mp hl
    rw [List.foldl_cons, ih hd.2]
    by_cases hb : b = b0
    · subst hb
      rw [if_neg hd.1, if_pos List.mem_cons_self, h0]
    · have : b0 ∈ b :: l ↔ b0 ∈ l := by
        rw [List.mem_cons]; exact ⟨fun h => h.resolve_left (fun e => hb e.symm), Or.inr⟩
      simp only [this, hn b hb]

/-- A scatter read at an element on which one update lands. -/
theorem scatter_one {α : Type} {s si u : Shape} {w : ℕ} (d : ScatterDims s si u) (f : α → α → α) (x : s.Idx → α) (idx : IVec si w)
    (upd : u.Idx → α) (ι : s.Idx) (k0 : u.Idx) (h0 : d.resultIdx? k0 idx = some ι) (h1 : ∀ k, d.resultIdx? k idx = some ι → k = k0) :
    Host.scatter d f x idx upd ι = f (x ι) (upd k0) := by
  unfold Host.scatter
  rw [foldl_hit ι (fun a => f a (upd k0)) (u.rowMajor k0) _ (fun r => ?_) (fun b hb r => ?_) _ (List.nodup_finRange _) x,
    if_pos (List.mem_finRange _)]
  · simp only [Equiv.symm_apply_apply, h0, if_true]
  · cases e : d.resultIdx? (u.rowMajor.symm b) idx with
    | none => rfl
    | some i =>
      refine if_neg fun hi : ι = i => hb ?_
      rw [← h1 _ (e.trans (congrArg some hi.symm)), Equiv.apply_symm_apply]

/-- A scatter read at an element on which none does. -/
theorem scatter_none {α : Type} {s si u : Shape} {w : ℕ} (d : ScatterDims s si u) (f : α → α → α) (x : s.Idx → α) (idx : IVec si w)
    (upd : u.Idx → α) (ι : s.Idx) (h1 : ∀ k, d.resultIdx? k idx ≠ some ι) :
    Host.scatter d f x idx upd ι = x ι := by
  unfold Host.scatter
  induction (List.finRange u.numel) generalizing x with
  | nil => rfl
  | cons b l ih =>
    rw [List.foldl_cons, ih]
    cases e : d.resultIdx? (u.rowMajor.symm b) idx with
    | none => rfl
    | some i => exact if_neg fun hi : ι = i => h1 _ (e.trans (congrArg some hi.symm))

/-- Where the updates of a whole slice land, the slice's index being in range. -/
theorem land {N : ℕ} (d : ScatterDims ⟨3, ![4096, 128, N]⟩ S1 S4096x128) (hu : d.updateWindowDims = [0, 1]) (hi : d.insertedWindowDims = [2])
    (hs : d.scatterDimsToOperandDims = [2]) (hv : d.indexVectorDim = 0) (idx : IVec S1 32) (w : BitVec 32) (q : Fin N)
    (hw : w.toInt = (q.val : ℤ)) (hidx : ∀ i, idx i = w) (k : S4096x128.Idx) :
    d.resultIdx? k idx = some (ix3 (n0 := 4096) (n1 := 128) (n2 := N) (k 0) (k 1) q) := by
  obtain ⟨uw, iw, sd, iv, wf⟩ := d
  dsimp only at hu hi hs hv
  subst hu hi hs hv
  set d : ScatterDims ⟨3, ![4096, 128, N]⟩ S1 S4096x128 := ⟨[0, 1], [2], [2], 0, wf⟩ with hd
  have s0 : d.start k idx 0 = 0 := rfl
  have s1 : d.start k idx 1 = 0 := rfl
  have s2 : d.start k idx 2 = (q.val : ℤ) := by
    show (idx _).toInt = _
    rw [hidx]; exact hw
  have w0 : d.window k 0 = (k 0).val := rfl
  have w1 : d.window k 1 = (k 1).val := rfl
  have w2 : d.window k 2 = 0 := rfl
  have b0 : (k 0).val < 4096 := (k 0).isLt
  have b1 : (k 1).val < 128 := (k 1).isLt
  have b2 := q.isLt
  have inb : ∀ a, 0 ≤ d.start k idx a + d.window k a ∧ d.start k idx a + d.window k a < (⟨3, ![4096, 128, N]⟩ : Shape).size a := fun a => by
    match a with
    | ⟨0, _⟩ => show 0 ≤ d.start k idx 0 + d.window k 0 ∧ d.start k idx 0 + d.window k 0 < (4096 : ℕ); rw [s0, w0]; omega
    | ⟨1, _⟩ => show 0 ≤ d.start k idx 1 + d.window k 1 ∧ d.start k idx 1 + d.window k 1 < (128 : ℕ); rw [s1, w1]; omega
    | ⟨2, _⟩ => show 0 ≤ d.start k idx 2 + d.window k 2 ∧ d.start k idx 2 + d.window k 2 < (N : ℕ); rw [s2, w2]; omega
  unfold ScatterDims.resultIdx?
  rw [dif_pos inb]
  refine congrArg some (funext fun a => Fin.ext ?_)
  match a with
  | ⟨0, _⟩ => show (d.start k idx 0 + d.window k 0 : ℤ).toNat = (k 0).val; rw [s0, w0]; omega
  | ⟨1, _⟩ => show (d.start k idx 1 + d.window k 1 : ℤ).toNat = (k 1).val; rw [s1, w1]; omega
  | ⟨2, _⟩ => show (d.start k idx 2 + d.window k 2 : ℤ).toNat = q.val; rw [s2, w2]; omega

/-- A scatter of one whole slice, read at an element. -/
theorem scatter_slice {α : Type} {N : ℕ} (d : ScatterDims ⟨3, ![4096, 128, N]⟩ S1 S4096x128) (hu : d.updateWindowDims = [0, 1]) (hi : d.insertedWindowDims = [2])
    (hs : d.scatterDimsToOperandDims = [2]) (hv : d.indexVectorDim = 0) (f : α → α → α) (x : (⟨3, ![4096, 128, N]⟩ : Shape).Idx → α) (idx : IVec S1 32)
    (upd : S4096x128.Idx → α) (w : BitVec 32) (q : Fin N)
    (hw : w.toInt = (q.val : ℤ)) (hidx : ∀ i, idx i = w) (r : Fin 4096) (j : Fin 128) (p : Fin N) :
    Host.scatter d f x idx upd (ix3 r j p) = if p = q then f (x (ix3 r j p)) (upd (ix2 r j)) else x (ix3 r j p) := by
  have hl := land d hu hi hs hv idx w q hw hidx
  split
  · rename_i e
    subst e
    refine scatter_one d f x idx upd _ (ix2 (n0 := 4096) (n1 := 128) r j) (hl _) fun k hk => ?_
    have e := Option.some.inj ((hl k).symm.trans hk)
    funext a
    match a with
    | ⟨0, _⟩ => exact congrFun e 0
    | ⟨1, _⟩ => exact congrFun e 1
  · rename_i e
    refine scatter_none d f x idx upd _ fun k hk => e ?_
    exact (congrFun (Option.some.inj ((hl k).symm.trans hk)) 2).symm

/-- The pad of one place below the last axis, read at an element. -/
theorem pad_low {α : Type} (x : S4096x128x64.Idx → α) {u : Shape} (v : u.Idx → α)
    (h : S4096x128x64.Pads ![0, 0, 1] ![0, 0, 0] ![0, 0, 0] S4096x128x65) (hu : 0 < u.numel) (r : Fin 4096) (j : Fin 128) (p : Fin 65) :
    pad S4096x128x65 ![0, 0, 1] ![0, 0, 0] ![0, 0, 0] x v h hu (ix3 r j p)
      = if hp : p.val = 0 then v (Shape.Idx.first hu) else x (ix3 (n0 := 4096) (n1 := 128) (n2 := 64) r j ⟨p.val - 1, by omega⟩) := by
  have hr := r.isLt
  have hj := j.isLt
  have hpl := p.isLt
  unfold pad
  by_cases hp : p.val = 0
  · rw [dif_pos hp, dif_neg]
    intro hin
    have h2 : 1 ≤ p.val := (hin 2).1
    omega
  · rw [dif_neg hp, dif_pos (fun a => by
      match a with
      | ⟨0, _⟩ => exact ⟨Nat.zero_le _, Nat.mod_one _, by show (r.val - 0) / 1 < 4096; omega⟩
      | ⟨1, _⟩ => exact ⟨Nat.zero_le _, Nat.mod_one _, by show (j.val - 0) / 1 < 128; omega⟩
      | ⟨2, _⟩ => exact ⟨by show 1 ≤ p.val; omega, Nat.mod_one _, by show (p.val - 1) / 1 < 64; omega⟩)]
    refine congrArg x (funext fun a => Fin.ext ?_)
    match a with
    | ⟨0, _⟩ => show (r.val - 0) / 1 = r.val; omega
    | ⟨1, _⟩ => show (j.val - 0) / 1 = j.val; omega
    | ⟨2, _⟩ => show (p.val - 1) / 1 = p.val - 1; omega

/-- A left fold of sums is a sum. -/
theorem foldl_add_sum {B : Type} (g : B → EReal) (l : List B) (v : EReal) : l.foldl (fun r n => r + g n) v = v + (l.map g).sum := by
  induction l generalizing v with
  | nil => simp
  | cons b l ih => rw [List.foldl_cons, ih, List.map_cons, List.sum_cons, add_assoc]

/-- A window that holds the entries up to its own place, summed: the first `k + 1` of them. -/
theorem sum_window (X : ℕ → EReal) (k : ℕ) (hk : k < 64) :
    ∑ n : Fin 64, (if 63 ≤ k + n.val ∧ k + n.val - 63 < 64 then X (k + n.val - 63) else 0) = ∑ p ∈ Finset.range (k + 1), X p := by
  rw [Fin.sum_univ_eq_sum_range (fun n => if 63 ≤ k + n ∧ k + n - 63 < 64 then X (k + n - 63) else 0) 64, ← Finset.sum_filter]
  refine Finset.sum_nbij' (fun n => k + n - 63) (fun p => p + 63 - k) ?_ ?_ ?_ ?_ ?_
  · intro n hn
    simp only [Finset.mem_filter, Finset.mem_range] at hn ⊢
    omega
  · intro p hp
    simp only [Finset.mem_filter, Finset.mem_range] at hp ⊢
    omega
  · intro n hn
    simp only [Finset.mem_filter, Finset.mem_range] at hn
    show k + n - 63 + 63 - k = n
    omega
  · intro p hp
    simp only [Finset.mem_range] at hp
    show k + (p + 63 - k) - 63 = p
    omega
  · intro n _; rfl

/-- The window's index as a place on its last axis. -/
def winEquiv : Fin 64 ≃ (⟨3, ![1, 1, 64]⟩ : Shape).Idx where
  toFun n := ix3 0 0 n
  invFun i := i 2
  left_inv n := rfl
  right_inv i := by
    funext a
    match a with
    | ⟨0, _⟩ => exact Subsingleton.elim (α := Fin 1) _ _
    | ⟨1, _⟩ => exact Subsingleton.elim (α := Fin 1) _ _
    | ⟨2, _⟩ => rfl

/-- The running sum along the last axis, read at an element. -/
theorem runSum (x : FVec Ideal S4096x128x64 .f32) {u : Shape} (init : FVec Ideal u .f32)
    (h : S4096x128x64.ReduceWindows ![1, 1, 64] ![1, 1, 1] ![0, 0, 63] ![0, 0, 0] S4096x128x64) (hu : 0 < u.numel)
    (hz : init (Shape.Idx.first hu) = (0 : EReal)) (r : Fin 4096) (j : Fin 128) (k : Fin 64) (X : ℕ → EReal) (hX : ∀ p : Fin 64, x (ix3 r j p) = X p.val) :
    (Host.reduceWindowAdd ![1, 1, 64] ![1, 1, 1] ![0, 0, 63] ![0, 0, 0] x init h hu : FVec Ideal S4096x128x64 .f32) (ix3 r j k)
      = ∑ p ∈ Finset.range (k.val + 1), X p := by
  have hr := r.isLt
  have hj := j.isLt
  rw [← sum_window X k.val k.isLt]
  unfold Host.reduceWindowAdd
  rw [Ideal.hostReduceWindowAdd_def, hz]
  unfold Ideal.hostReduceWindowAdd Host.reduceWindow
  dsimp only
  rw [foldl_add_sum, zero_add, ← List.ofFn_eq_map, List.sum_ofFn]
  rw [← Equiv.sum_comp (winEquiv.trans (⟨3, ![1, 1, 64]⟩ : Shape).rowMajor)]
  refine Finset.sum_congr rfl fun n _ => ?_
  simp only [Equiv.trans_apply, Equiv.symm_apply_apply]
  by_cases hc : 63 ≤ k.val + n.val ∧ k.val + n.val - 63 < 64
  · rw [if_pos hc, dif_pos (fun a => by
      match a with
      | ⟨0, _⟩ => exact ⟨Nat.zero_le _, by show r.val * 1 + 0 - 0 < 4096; omega⟩
      | ⟨1, _⟩ => exact ⟨Nat.zero_le _, by show j.val * 1 + 0 - 0 < 128; omega⟩
      | ⟨2, _⟩ => exact ⟨by show 63 ≤ k.val * 1 + n.val; omega, by show k.val * 1 + n.val - 63 < 64; omega⟩)]
    refine (congrArg x (funext fun a => Fin.ext ?_)).trans (hX ⟨k.val + n.val - 63, hc.2⟩)
    match a with
    | ⟨0, _⟩ => show r.val * 1 + 0 - 0 = r.val; omega
    | ⟨1, _⟩ => show j.val * 1 + 0 - 0 = j.val; omega
    | ⟨2, _⟩ => show k.val * 1 + n.val - 63 = k.val + n.val - 63; omega
  · rw [if_neg hc, dif_neg]
    intro hin
    have h1 : 63 ≤ k.val * 1 + n.val := (hin 2).1
    have h2 : k.val * 1 + n.val - 63 < 64 := (hin 2).2
    exact hc ⟨by omega, by omega⟩

end Cert.ReferenceIdeal.Ops

end
-- ==== Proof.RefTake.lean ====
/- The reference's largest element, its count and its takes, read at an element. -/
module

public import proofs.«01_k».proof.Proof.RefOps

@[expose] public section

set_option maxRecDepth 16384

noncomputable section

namespace Cert.ReferenceIdeal.Ops

open Idealize.ShloMosaic Idealize.ShloMosaic.ValueIdx
open Cert.ReferenceIdeal Cert.ReferenceIdeal.Gen

/-- The largest of finitely many reals, from below all of them, is a real. -/
theorem fold_max_real {B : Type} (S : Finset B) (hS : S.Nonempty) (f : B → EReal) (hf : ∀ b, ∃ r : ℝ, f b = (r : EReal)) :
    ∃ r : ℝ, S.fold max (⊥ : EReal) f = (r : EReal) := by
  induction hS using Finset.Nonempty.cons_induction with
  | singleton a =>
    obtain ⟨r, hr⟩ := hf a
    exact ⟨r, by rw [Finset.fold_singleton, hr]; exact max_eq_left bot_le⟩
  | cons a S ha _ ih =>
    obtain ⟨r, hr⟩ := hf a
    obtain ⟨q, hq⟩ := ih
    exact ⟨max r q, by rw [Finset.fold_cons, hr, hq]; exact (EReal.coe_strictMono.monotone.map_max).symm⟩

theorem maxLast (x : FVec Ideal S4096x128x64 .f32) (init : FVec Ideal S_ .f32) (h : S4096x128x64.ReducesTo [2] S4096x128) (hu : 0 < S_.numel)
    (hb : init (Shape.Idx.first hu) = (⊥ : EReal)) (r : Fin 4096) (j : Fin 128) (hx : ∀ p : Fin 64, ∃ q : ℝ, x (ix3 r j p) = (q : EReal)) :
    ∃ q : ℝ, (Host.reduce (FloatOps.maximumf (F := Ideal) (φ := .f32)) x init h hu : FVec Ideal S4096x128 .f32) (ix2 r j) = (q : EReal) := by
  have hR : S4096x128x64.Reduces [2] S4096x128 := by decide
  have e := Host.reduce_eq_fold_single (max : EReal → EReal → EReal) x init h hR hu (ix2 r j)
  rw [hb] at e
  obtain ⟨q, hq⟩ := fold_max_real (Finset.univ : Finset (Fin 64)) ⟨0, Finset.mem_univ _⟩ (fun p => x (ix3 r j p)) hx
  refine ⟨q, Eq.trans ?_ hq⟩
  refine e.trans (congrArg (fun f => Finset.fold max (⊥ : EReal) f (Finset.univ : Finset (Fin 64))) (funext fun p => ?_))
  exact congrArg x (funext fun a => Fin.ext (by match a with | ⟨0, _⟩ => rfl | ⟨1, _⟩ => rfl | ⟨2, _⟩ => rfl))

theorem card_fin_count (n : ℕ) (Q : ℕ → Prop) [DecidablePred Q] : (Finset.univ.filter (fun q : Fin n => Q q.val)).card = Nat.count Q n := by
  rw [Nat.count_eq_card_filter_range, ← Finset.card_map Fin.valEmbedding]
  congr 1
  ext a
  simp only [Finset.mem_map, Finset.mem_filter, Finset.mem_univ, true_and, Fin.valEmbedding_apply, Finset.mem_range]
  exact ⟨fun ⟨q, hq, e⟩ => e ▸ ⟨q.isLt, hq⟩, fun ⟨h1, h2⟩ => ⟨⟨a, h1⟩, h2, rfl⟩⟩

/-- The set bits along the last axis, counted. -/
theorem countLast (mask : IVec S4096x128x65 1) (hw : 1 < 32) (init : IVec S_ 32) (h : S4096x128x65.ReducesTo [2] S4096x128) (hu : 0 < S_.numel)
    (hz : init (Shape.Idx.first hu) = 0#32) (r : Fin 4096) (j : Fin 128) (Q : ℕ → Prop) [DecidablePred Q]
    (hQ : ∀ p : Fin 65, mask (ix3 r j p) = 1#1 ↔ Q p.val) :
    (Host.reduce IntOp.addi (extui 32 mask hw) init h hu : IVec S4096x128 32) (ix2 r j) = BitVec.ofNat 32 (Nat.count Q 65) := by
  have hR : S4096x128x65.Reduces [2] S4096x128 := by decide
  have e := Host.reduce_eq_fold_single IntOp.addi (extui 32 mask hw) init h hR hu (ix2 r j)
  rw [hz] at e
  have hval : ∀ p : Fin 65, ((extui 32 mask hw ∘ hR.lift (ix2 r j)) p).toNat = if Q p.val then 1 else 0 := by
    intro p
    have hp : hR.lift (ix2 r j) p = (ix3 r j p : S4096x128x65.Idx) :=
      funext fun a => Fin.ext (by match a with | ⟨0, _⟩ => rfl | ⟨1, _⟩ => rfl | ⟨2, _⟩ => rfl)
    refine (congrArg (fun i => (extui 32 mask hw i).toNat) hp).trans ?_
    refine (StableHlo.Predicate.toNat_setWidth_bit (mask (ix3 r j p))).trans ?_
    simp only [hQ]
  have hsum : ∑ p : Fin 65, ((extui 32 mask hw ∘ hR.lift (ix2 r j)) p).toNat = Nat.count Q 65 := by
    rw [Finset.sum_congr rfl fun p _ => hval p, ← card_fin_count, Finset.card_filter]
  apply BitVec.eq_of_toNat_eq
  have hc : Nat.count Q 65 ≤ 65 := Nat.count_le ..
  rw [e, BitVec.toNat_ofNat, Nat.mod_eq_of_lt (by omega)]
  exact (StableHlo.Predicate.toNat_fold_addi (Finset.univ : Finset (Fin 65)) _ (lt_of_eq_of_lt hsum (by omega))).trans hsum

/-- A take along the last axis, read at an element: the table at the index, when that is in range. -/
theorem take_at {α : Type} {N : ℕ} (d : GatherDims ⟨3, ![4096, 128, N]⟩ S4096x128x1x1 S4096x128x1) (h1 : d.offsetDims = []) (h2 : d.collapsedSliceDims = [2])
    (h3 : d.operandBatchingDims = [0, 1]) (h4 : d.startIndicesBatchingDims = [0, 1]) (h5 : d.startIndexMap = [2]) (h6 : d.indexVectorDim = 3)
    (h7 : d.sliceSizes = ![1, 1, 1]) (x : (⟨3, ![4096, 128, N]⟩ : Shape).Idx → α) (idx : IVec S4096x128x1x1 32) (r : Fin 4096) (j : Fin 128)
    (k : Fin N) (hk : (idx (ix4 (n0 := 4096) (n1 := 128) (n2 := 1) (n3 := 1) r j 0 0)).toInt = (k.val : ℤ)) :
    Host.gather d x idx (ix3 (n0 := 4096) (n1 := 128) (n2 := 1) r j 0) = x (ix3 r j k) := by
  obtain ⟨od, cs, ob, sb, sim, iv, ss, wf⟩ := d
  dsimp only at h1 h2 h3 h4 h5 h6 h7
  subst h1 h2 h3 h4 h5 h6 h7
  set d : GatherDims ⟨3, ![4096, 128, N]⟩ S4096x128x1x1 S4096x128x1 := ⟨[], [2], [0, 1], [0, 1], [2], 3, ![1, 1, 1], wf⟩ with hd
  have hkl := k.isLt
  show x (d.operandIdx (ix3 (n0 := 4096) (n1 := 128) (n2 := 1) r j 0) idx) = _
  refine congrArg x (funext fun a => Fin.ext ?_)
  match a with
  | ⟨0, _⟩ => show 0 + r.val + 0 = r.val; omega
  | ⟨1, _⟩ => show 0 + j.val + 0 = j.val; omega
  | ⟨2, _⟩ =>
    have hs : d.start (ix3 (n0 := 4096) (n1 := 128) (n2 := 1) r j 0) idx 2 = min (idx (ix4 (n0 := 4096) (n1 := 128) (n2 := 1) (n3 := 1) r j 0 0)).toInt.toNat (N - 1) := by
      unfold GatherDims.start
      rw [dif_pos (show (2 : Fin 3) ∈ [(2 : Fin 3)] from List.mem_singleton.mpr rfl)]
      refine congrArg (fun i => min (idx i).toInt.toNat (N - 1)) (funext fun b => ?_)
      match b with
      | ⟨0, _⟩ => rfl
      | ⟨1, _⟩ => rfl
      | ⟨2, _⟩ => rfl
      | ⟨3, _⟩ => rfl
    show d.start (ix3 (n0 := 4096) (n1 := 128) (n2 := 1) r j 0) idx 2 + 0 + 0 = k.val
    rw [hs, hk]
    omega

/-- Every index in range: the printed range test over the one-place axis is set. -/
theorem inRange (x : IVec S4096x128x1x1 1) (init : IVec S_ 1) (h : S4096x128x1x1.ReducesTo [3] S4096x128x1) (hu : 0 < S_.numel)
    (hi : init (Shape.Idx.first hu) = 1#1) (r : Fin 4096) (j : Fin 128)
    (hx : x (ix4 (n0 := 4096) (n1 := 128) (n2 := 1) (n3 := 1) r j 0 0) = 1#1) :
    Host.reduce IntOp.andi x init h hu (ix3 (n0 := 4096) (n1 := 128) (n2 := 1) r j 0) = 1#1 := by
  rw [Host.reduce_eq_foldl]
  refine IntOp.foldl_andi_one x _ _ hi fun n hn => ?_
  have hd : h.drop n = _ := of_decide_eq_true (List.mem_filter.mp hn).2
  have e : n = (ix4 (n0 := 4096) (n1 := 128) (n2 := 1) (n3 := 1) r j 0 0 : S4096x128x1x1.Idx) := by
    funext a; apply Fin.ext
    match a with
    | ⟨0, _⟩ => exact (Shape.ReducesTo.drop_apply_val h n 0).symm.trans (congrArg (fun i => (i 0).val) hd)
    | ⟨1, _⟩ => exact (Shape.ReducesTo.drop_apply_val h n 1).symm.trans (congrArg (fun i => (i 1).val) hd)
    | ⟨2, _⟩ => have : (n 2).val < 1 := (n 2).isLt; show (n 2).val = 0; omega
    | ⟨3, _⟩ => have : (n 3).val < 1 := (n 3).isLt; show (n 3).val = 0; omega
  rw [e]; exact hx

variable {F : FTy → Type} [FloatOps F]

/-- The index a take reads, wrapped once by `m` below zero. -/
def wrapped (m : BitVec 32) (ix : IVec S4096x128x1 32) : IVec S4096x128x1x1 32 :=
  shapeCast S4096x128x1x1 (select (cmpi .slt ix (broadcastInDim S4096x128x1 ![] bcast_S_S4096x128x1 (constantI S_ 32 0#32)))
    (addi ix (broadcastInDim S4096x128x1 ![] bcast_S_S4096x128x1 (constantI S_ 32 m))) ix) shapeCasts_S4096x128x1_S4096x128x1x1

/-- The test that it is at most `q`. -/
def tested (q : BitVec 32) (w : IVec S4096x128x1x1 32) : IVec S4096x128x1 1 :=
  Host.reduce IntOp.andi (andi (cmpi .sge w (broadcastInDim S4096x128x1x1 ![] bcast_S_S4096x128x1x1 (constantI S_ 32 0#32)))
    (cmpi .sle w (broadcastInDim S4096x128x1x1 ![0, 1, 2, 3] bcast_S1x1x1x1_S4096x128x1x1_0_1_2_3
      (broadcastInDim S1x1x1x1 ![3] bcast_S1_S1x1x1x1_3 (constantI S1 32 q))))) (constantI S_ 1 1#1) reducesTo_S4096x128x1x1_S4096x128x1_d3 h_S_

theorem ofNat_toInt (k : ℕ) (hk : k < 2 ^ 31) : (BitVec.ofNat 32 k).toInt = (k : ℤ) := by
  have h : (BitVec.ofNat 32 k).toNat = k := by rw [BitVec.toNat_ofNat, Nat.mod_eq_of_lt (by omega)]
  rw [BitVec.toInt_eq_toNat_of_lt (by rw [h]; omega), h]

theorem wrapped_at (m : BitVec 32) (ix : IVec S4096x128x1 32) (r : Fin 4096) (j : Fin 128) (k : ℕ) (hk : k < 2 ^ 31)
    (hi : ix (ix3 (n0 := 4096) (n1 := 128) (n2 := 1) r j 0) = BitVec.ofNat 32 k) :
    wrapped m ix (ix4 (n0 := 4096) (n1 := 128) (n2 := 1) (n3 := 1) r j 0 0) = BitVec.ofNat 32 k := by
  have hn : (BitVec.ofNat 32 k).slt 0#32 = false := by
    rw [Bool.eq_false_iff]; intro h
    have := BitVec.slt_iff_toInt_lt.mp h
    rw [ofNat_toInt k hk, show (0#32).toInt = 0 from rfl] at this
    omega
  unfold wrapped
  refine (shapeCast_apply _ _ _ (ix3 (n0 := 4096) (n1 := 128) (n2 := 1) r j 0 : S4096x128x1.Idx) ?_).trans ?_
  · rw [Shape.rowMajor_val_three, Shape.rowMajor_val_four]
    show (r.val * 128 + j.val) * 1 + 0 = ((r.val * 128 + j.val) * 1 + 0) * 1 + 0
    omega
  have hc : cmpi .slt ix (broadcastInDim S4096x128x1 ![] bcast_S_S4096x128x1 (constantI S_ 32 0#32)) (ix3 (n0 := 4096) (n1 := 128) (n2 := 1) r j 0) = 0#1 := by
    show BitVec.ofBool ((ix (ix3 (n0 := 4096) (n1 := 128) (n2 := 1) r j 0)).slt 0#32) = 0#1
    rw [hi, hn]; rfl
  rw [select_apply, hc, select_zero]
  exact hi

theorem tested_at (q : BitVec 32) (w : IVec S4096x128x1x1 32) (r : Fin 4096) (j : Fin 128)
    (h0 : (w (ix4 (n0 := 4096) (n1 := 128) (n2 := 1) (n3 := 1) r j 0 0)).sle q = true)
    (h1 : (0#32).sle (w (ix4 (n0 := 4096) (n1 := 128) (n2 := 1) (n3 := 1) r j 0 0)) = true) :
    tested q w (ix3 (n0 := 4096) (n1 := 128) (n2 := 1) r j 0) = 1#1 := by
  refine inRange _ _ _ _ rfl r j ?_
  show BitVec.ofBool ((0#32).sle (w (ix4 (n0 := 4096) (n1 := 128) (n2 := 1) (n3 := 1) r j 0 0)))
    &&& BitVec.ofBool ((w (ix4 (n0 := 4096) (n1 := 128) (n2 := 1) (n3 := 1) r j 0 0)).sle q) = 1#1
  rw [h0, h1]; rfl

/-- The whole take of a table of 65 entries a lane. -/
def along65 (tbl : FVec F S4096x128x65 .f32) (ix : IVec S4096x128x1 32) : FVec F S4096x128 .f32 :=
  shapeCast S4096x128 (select (tested 64#32 (wrapped 65#32 ix))
    (Host.gather gather_S4096x128x65_S4096x128x1x1_S4096x128x1_n_2_01_01_2_3_111 tbl (wrapped 65#32 ix))
    (broadcastInDim S4096x128x1 ![] bcast_S_S4096x128x1 (constant S_ .f32 0x7FC00000#32))) shapeCasts_S4096x128x1_S4096x128

/-- And of 64. -/
def along64 (tbl : FVec F S4096x128x64 .f32) (ix : IVec S4096x128x1 32) : FVec F S4096x128 .f32 :=
  shapeCast S4096x128 (select (tested 63#32 (wrapped 64#32 ix))
    (Host.gather gather_S4096x128x64_S4096x128x1x1_S4096x128x1_n_2_01_01_2_3_111 tbl (wrapped 64#32 ix))
    (broadcastInDim S4096x128x1 ![] bcast_S_S4096x128x1 (constant S_ .f32 0x7FC00000#32))) shapeCasts_S4096x128x1_S4096x128

theorem drop_last {α : Type} (x : S4096x128x1.Idx → α) (r : Fin 4096) (j : Fin 128) :
    shapeCast S4096x128 x shapeCasts_S4096x128x1_S4096x128 (ix2 r j) = x (ix3 (n0 := 4096) (n1 := 128) (n2 := 1) r j 0) := by
  refine shapeCast_apply _ _ _ _ ?_
  rw [Shape.rowMajor_val_three, Shape.rowMajor_val_two]
  show (r.val * 128 + j.val) * 1 + 0 = r.val * 128 + j.val
  omega

theorem ofNat_sle (k q : ℕ) (hk : k ≤ q) (hq : q < 2 ^ 31) : (BitVec.ofNat 32 k).sle (BitVec.ofNat 32 q) = true := by
  rw [BitVec.sle_iff_toInt_le, ofNat_toInt k (by omega), ofNat_toInt q hq]
  omega

theorem along65_at (tbl : FVec F S4096x128x65 .f32) (ix : IVec S4096x128x1 32) (r : Fin 4096) (j : Fin 128) (k : ℕ) (hk : k < 65)
    (hi : ix (ix3 (n0 := 4096) (n1 := 128) (n2 := 1) r j 0) = BitVec.ofNat 32 k) :
    along65 tbl ix (ix2 r j) = tbl (ix3 r j ⟨k, hk⟩) := by
  have hw := wrapped_at 65#32 ix r j k (by omega) hi
  unfold along65
  rw [drop_last, select_apply, tested_at 64#32 _ r j (by rw [hw]; exact ofNat_sle k 64 (by omega) (by omega)) (by rw [hw]; exact ofNat_sle 0 k (by omega) (by omega)), select_one]
  exact take_at _ rfl rfl rfl rfl rfl rfl rfl tbl _ r j ⟨k, hk⟩ (by rw [hw]; exact ofNat_toInt k (by omega))

theorem along64_at (tbl : FVec F S4096x128x64 .f32) (ix : IVec S4096x128x1 32) (r : Fin 4096) (j : Fin 128) (k : ℕ) (hk : k < 64)
    (hi : ix (ix3 (n0 := 4096) (n1 := 128) (n2 := 1) r j 0) = BitVec.ofNat 32 k) :
    along64 tbl ix (ix2 r j) = tbl (ix3 r j ⟨k, hk⟩) := by
  have hw := wrapped_at 64#32 ix r j k (by omega) hi
  unfold along64
  rw [drop_last, select_apply, tested_at 63#32 _ r j (by rw [hw]; exact ofNat_sle k 63 (by omega) (by omega)) (by rw [hw]; exact ofNat_sle 0 k (by omega) (by omega)), select_one]
  exact take_at _ rfl rfl rfl rfl rfl rfl rfl tbl _ r j ⟨k, hk⟩ (by rw [hw]; exact ofNat_toInt k (by omega))

end Cert.ReferenceIdeal.Ops

end
-- ==== Proof.RefVal.lean ====
/- The reference's values at an element, as the real spline's. -/
module

public import proofs.«01_k».proof.Proof.RefTake
public import proofs.«01_k».proof.Proof.Num

@[expose] public section

set_option maxRecDepth 16384

noncomputable section

namespace Cert.ReferenceIdeal.Spl

open Idealize.ShloMosaic Idealize.ShloMosaic.ValueIdx
open Cert.ReferenceIdeal Cert.ReferenceIdeal.Gen Cert.ReferenceIdeal.Read Cert.ReferenceIdeal.Ops

theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

section scalar
variable {a b : Ideal .f32} {s t : ℝ}
theorem sAdd (h1 : a = (s : EReal)) (h2 : b = (t : EReal)) : FloatOps.addf a b = ((s + t : ℝ) : EReal) :=
  (congrArg₂ (fun u v : EReal => u + v) h1 h2).trans (Num.add' s t)
theorem sSub (h1 : a = (s : EReal)) (h2 : b = (t : EReal)) : FloatOps.subf a b = ((s - t : ℝ) : EReal) :=
  (congrArg₂ (fun u v : EReal => u - v) h1 h2).trans (Num.sub' s t)
theorem sMul (h1 : a = (s : EReal)) (h2 : b = (t : EReal)) : FloatOps.mulf a b = ((s * t : ℝ) : EReal) :=
  (congrArg₂ (fun u v : EReal => u * v) h1 h2).trans (Num.mul' s t)
theorem sDiv (h1 : a = (s : EReal)) (h2 : b = (t : EReal)) (ht : t ≠ 0) : FloatOps.hostDivf a b = ((s / t : ℝ) : EReal) :=
  (congrArg₂ Ideal.div h1 h2).trans (Num.div' s t ht)
theorem sMax (h1 : a = (s : EReal)) (h2 : b = (t : EReal)) : FloatOps.maximumf a b = ((max s t : ℝ) : EReal) :=
  (congrArg₂ (fun u v : EReal => max u v) h1 h2).trans (Num.max' s t)
theorem sMin (h1 : a = (s : EReal)) (h2 : b = (t : EReal)) : FloatOps.minimumf a b = ((min s t : ℝ) : EReal) :=
  (congrArg₂ (fun u v : EReal => min u v) h1 h2).trans (Num.min' s t)
theorem sExp (h1 : a = (s : EReal)) : FloatOps.hostUnary .exp a = ((Real.exp s : ℝ) : EReal) := (congrArg Ideal.exp h1).trans (Num.exp' s)
theorem sLog1p (h1 : a = (s : EReal)) (hs : 0 < 1 + s) : FloatOps.hostUnary .log1p a = ((Real.log (1 + s) : ℝ) : EReal) :=
  (congrArg Ideal.log1p h1).trans (Num.log1p' s hs)
theorem sLog {a b : Ideal .f32} (h : a = b) : FloatOps.hostUnary .log a = Ideal.log b := congrArg Ideal.log h
theorem sNegAbs (h1 : a = (s : EReal)) : FloatOps.hostNegf (FloatOps.hostAbsf a) = ((-|s| : ℝ) : EReal) := by
  refine (congrArg (fun u : EReal => -(max u (-u))) h1).trans ?_
  rw [← EReal.coe_neg, Num.max', ← EReal.coe_neg]
  rfl
end scalar

theorem clip_word : ∀ c : Fin 66, IntOp.minsi 63#32 (IntOp.maxsi 0#32 (IntOp.subi (BitVec.ofNat 32 c.val) 1#32)) = BitVec.ofNat 32 (min (c.val - 1) 63) := by
  decide +kernel

variable (x0 : (⟨S4096x64, .f32⟩ : BufTy).Contents (Elt Ideal)) (x1 : (⟨S4096x512, .f32⟩ : BufTy).Contents (Elt Ideal))
  (x2 : (⟨S448x16512, .f32⟩ : BufTy).Contents (Elt Ideal)) (x3 : (⟨S16512, .f32⟩ : BufTy).Contents (Elt Ideal))
variable (r : Fin 4096) (j : Fin 128) (Y : ℕ → ℝ) (X : ℝ)
variable (hY : ∀ p : Fin 129, val_main_v7 (F := Ideal) x0 x1 x2 x3 (ix3 r j p) = ((Y p.val : ℝ) : EReal))
variable (hX : val_main_v0 (F := Ideal) x1 (ix2 r j) = ((X : ℝ) : EReal))

include hY

/-! ## Widths -/

theorem v9_at (p : Fin 64) : val_main_v9 (F := Ideal) x0 x1 x2 x3 (ix3 r j p) = ((Y (65 + p.val) : ℝ) : EReal) :=
  (val_main_v9_apply x0 x1 x2 x3 _).trans ((congrArg (val_main_v7 (F := Ideal) x0 x1 x2 x3)
    (ext3 rfl rfl rfl : idx_main_v9 (ix3 r j p) = ix3 r j ⟨65 + p.val, by omega⟩)).trans (hY _))

theorem v12_at : ∃ M : ℝ, val_main_v12 (F := Ideal) x0 x1 x2 x3 (ix2 r j) = (M : EReal) := by
  obtain ⟨M, hM⟩ := maxLast (val_main_v9 (F := Ideal) x0 x1 x2 x3) (val_main_cst (F := Ideal)) reducesTo_S4096x128x64_S4096x128_d2 h_S_
    Num.lNegInf r j (fun p => ⟨_, v9_at x0 x1 x2 x3 r j Y hY p⟩)
  have h11 : val_main_v11 (F := Ideal) (ix2 r j) = (⊥ : EReal) := (val_main_v11_apply _).trans (show val_main_cst_0 (F := Ideal) _ = (⊥ : EReal) from Num.lNegInf)
  refine ⟨M, (val_main_v12_apply x0 x1 x2 x3 _).trans ?_⟩
  refine (congrArg₂ (fun u v : EReal => max u v) h11 hM).trans ?_
  exact max_eq_right bot_le

theorem v24_at (p : Fin 64) : val_main_v24 (F := Ideal) x0 x1 x2 x3 (ix3 r j p) = ((Spline.w Y p.val : ℝ) : EReal) := by
  obtain ⟨M, hM⟩ := v12_at x0 x1 x2 x3 r j Y hY
  have h16 : ∀ q : Fin 64, val_main_v16 (F := Ideal) x0 x1 x2 x3 (ix3 r j q) = ((Real.exp (Y (65 + q.val) - M) : ℝ) : EReal) := fun q => by
    refine (val_main_v16_apply x0 x1 x2 x3 _).trans (sExp ((val_main_v15_apply x0 x1 x2 x3 _).trans (sSub (v9_at x0 x1 x2 x3 r j Y hY q) ?_)))
    refine (val_main_v14_apply x0 x1 x2 x3 _).trans ((val_main_v13_apply x0 x1 x2 x3 _).trans (Eq.trans (congrArg _ ?_) hM))
    exact ext2 rfl rfl
  have h17 : val_main_v17 (F := Ideal) x0 x1 x2 x3 (ix2 r j) = ((∑ q ∈ Finset.range 64, Real.exp (Y (65 + q) - M) : ℝ) : EReal) := by
    refine (val_main_v17_apply x0 x1 x2 x3 _).trans ?_
    rw [show (val_main_cst_1 (F := Ideal)) (Shape.Idx.first h_S_) = (0 : EReal) from Num.lZero.trans EReal.coe_zero, zero_add,
      ← Num.sum', ← Fin.sum_univ_eq_sum_range (fun q => ((Real.exp (Y (65 + q) - M) : ℝ) : EReal))]
    refine Finset.sum_congr rfl fun q _ => (congrArg _ ?_).trans (h16 q)
    exact ext3 rfl rfl rfl
  have h19 : val_main_v19 (F := Ideal) x0 x1 x2 x3 (ix3 r j p) = ((∑ q ∈ Finset.range 64, Real.exp (Y (65 + q) - M) : ℝ) : EReal) := by
    refine (val_main_v19_apply x0 x1 x2 x3 _).trans ((val_main_v18_apply x0 x1 x2 x3 _).trans (Eq.trans (congrArg _ ?_) h17))
    exact ext2 rfl rfl
  have hpos : 0 < ∑ q ∈ Finset.range 64, Real.exp (Y (65 + q) - M) :=
    Finset.sum_pos (fun q _ => Real.exp_pos _) ⟨0, Finset.mem_range.mpr (by omega)⟩
  refine (val_main_v24_apply x0 x1 x2 x3 _).trans ((sAdd ((val_main_v23_apply (ix3 r j p)).trans Num.lMin) ((val_main_v22_apply x0 x1 x2 x3 _).trans
    (sMul ((val_main_v21_apply (ix3 r j p)).trans Num.lW) ((val_main_v20_apply x0 x1 x2 x3 _).trans (sDiv (h16 p) h19 hpos.ne'))))).trans ?_)
  rw [Spline.w_shift]

/-! ## Heights -/

theorem v8_at (p : Fin 65) : val_main_v8 (F := Ideal) x0 x1 x2 x3 (ix3 r j p) = ((Y p.val : ℝ) : EReal) :=
  (val_main_v8_apply x0 x1 x2 x3 _).trans ((congrArg (val_main_v7 (F := Ideal) x0 x1 x2 x3)
    (ext3 rfl rfl rfl : idx_main_v8 (ix3 r j p) = ix3 r j ⟨p.val, by omega⟩)).trans (hY _))

theorem v25_at (p : Fin 65) : val_main_v25 (F := Ideal) x0 x1 x2 x3 (ix3 r j p) = ((Real.log (1 + Real.exp (Y p.val)) : ℝ) : EReal) := by
  have h8 := v8_at x0 x1 x2 x3 r j Y hY p
  have h3 : val_main_call0_v3 (F := Ideal) x0 x1 x2 x3 (ix3 r j p) = ((Y p.val : ℝ) : EReal) := by
    refine (val_main_call0_v3_apply x0 x1 x2 x3 _).trans ((sSub h8 ((val_main_call0_v2_apply (ix3 r j p)).trans Num.lZero)).trans ?_)
    rw [sub_zero]
  have h4 : val_main_call0_v4 (F := Ideal) x0 x1 x2 x3 (ix3 r j p) = 0#1 := by
    refine (val_main_call0_v4_apply x0 x1 x2 x3 _).trans ?_
    show BitVec.ofBool (decide (_ ≠ _)) = 0#1
    rw [decide_eq_false (fun h => h rfl)]; rfl
  have h1 := (val_main_call0_v1_apply x0 x1 x2 x3 (ix3 r j p)).trans (sMax h8 ((val_main_call0_v0_apply (ix3 r j p)).trans Num.lZero))
  have h10 := (val_main_call0_v10_apply x0 x1 x2 x3 (ix3 r j p)).trans (sLog1p ((val_main_call0_v9_apply x0 x1 x2 x3 _).trans
    (sExp ((val_main_call0_v8_apply x0 x1 x2 x3 _).trans (Eq.trans (congrArg _ (val_main_call0_v7_apply x0 x1 x2 x3 _)) (sNegAbs h3)))))
    (by have := Real.exp_pos (-|Y p.val|); linarith))
  refine (val_main_v25_apply x0 x1 x2 x3 _).trans ?_
  rw [h4]
  refine ((select_zero _ _).trans ((val_main_call0_v11_apply x0 x1 x2 x3 _).trans (sAdd h1 h10))).trans ?_
  rw [Spline.softplus_eq]

theorem v27_at (p : Fin 65) : val_main_v27 (F := Ideal) x0 x1 x2 x3 (ix3 r j p) = ((Spline.he Y p.val : ℝ) : EReal) :=
  (val_main_v27_apply x0 x1 x2 x3 _).trans (sAdd (v25_at x0 x1 x2 x3 r j Y hY p) ((val_main_v26_apply (ix3 r j p)).trans Num.lMin))

theorem v36_at (p : Fin 65) : val_main_v36 (F := Ideal) x0 x1 x2 x3 (ix3 r j p) = ((1 / 2 * Spline.area Y : ℝ) : EReal) := by
  have h33 : ∀ q : Fin 64, val_main_v33 (F := Ideal) x0 x1 x2 x3 (ix3 r j q)
      = (((Spline.he Y q.val + Spline.he Y (q.val + 1)) / 2 * Spline.w Y q.val : ℝ) : EReal) := fun q => by
    refine (val_main_v33_apply x0 x1 x2 x3 _).trans (sMul ((val_main_v32_apply x0 x1 x2 x3 _).trans (sDiv ((val_main_v30_apply x0 x1 x2 x3 _).trans
      (sAdd ((val_main_v28_apply x0 x1 x2 x3 _).trans ?_) ((val_main_v29_apply x0 x1 x2 x3 _).trans ?_)))
      ((val_main_v31_apply (ix3 r j q)).trans Num.lTwo) two_ne_zero)) (v24_at x0 x1 x2 x3 r j Y hY q))
    · exact (congrArg _ (ext3 rfl rfl rfl : idx_main_v28 (ix3 r j q) = ix3 r j ⟨q.val, by omega⟩)).trans (v27_at x0 x1 x2 x3 r j Y hY _)
    · exact (congrArg _ (ext3 rfl rfl (Nat.add_comm _ _) : idx_main_v29 (ix3 r j q) = ix3 r j ⟨q.val + 1, by omega⟩)).trans (v27_at x0 x1 x2 x3 r j Y hY _)
  have h34 : val_main_v34 (F := Ideal) x0 x1 x2 x3 (ix2 r j) = ((1 / 2 * Spline.area Y : ℝ) : EReal) := by
    refine (val_main_v34_apply x0 x1 x2 x3 _).trans ?_
    rw [show (val_main_cst_6 (F := Ideal)) (Shape.Idx.first h_S_) = (0 : EReal) from Num.lZero.trans EReal.coe_zero, zero_add,
      ← Spline.area_half, ← Num.sum', ← Fin.sum_univ_eq_sum_range (fun q => (((Spline.he Y q + Spline.he Y (q + 1)) / 2 * Spline.w Y q : ℝ) : EReal))]
    refine Finset.sum_congr rfl fun q _ => (congrArg _ ?_).trans (h33 q)
    exact ext3 rfl rfl rfl
  refine (val_main_v36_apply x0 x1 x2 x3 _).trans ((val_main_v35_apply x0 x1 x2 x3 _).trans (Eq.trans (congrArg _ ?_) h34))
  exact ext2 rfl rfl

theorem v41_at (p : Fin 65) : val_main_v41 (F := Ideal) x0 x1 x2 x3 (ix3 r j p) = ((Spline.h Y p.val : ℝ) : EReal) := by
  refine (val_main_v41_apply x0 x1 x2 x3 _).trans ((sAdd ((val_main_v40_apply (ix3 r j p)).trans Num.lMin) ((val_main_v39_apply x0 x1 x2 x3 _).trans
    (sMul ((val_main_v38_apply (ix3 r j p)).trans Num.lH) ((val_main_v37_apply x0 x1 x2 x3 _).trans
      (sDiv (v27_at x0 x1 x2 x3 r j Y hY p) (v36_at x0 x1 x2 x3 r j Y hY p) (Spline.half_area_pos Y).ne'))))).trans ?_)
  rw [Spline.h_ref]

/-! ## Edges and running areas -/

theorem v47_at (p : Fin 64) : val_main_v47 (F := Ideal) x0 x1 x2 x3 (ix3 r j p)
    = (((Spline.h Y p.val + Spline.h Y (p.val + 1)) / 2 * Spline.w Y p.val : ℝ) : EReal) := by
  refine (val_main_v47_apply x0 x1 x2 x3 _).trans (sMul ((val_main_v46_apply x0 x1 x2 x3 _).trans (sDiv ((val_main_v44_apply x0 x1 x2 x3 _).trans
    (sAdd ((val_main_v42_apply x0 x1 x2 x3 _).trans ?_) ((val_main_v43_apply x0 x1 x2 x3 _).trans ?_)))
    ((val_main_v45_apply (ix3 r j p)).trans Num.lTwo) two_ne_zero)) (v24_at x0 x1 x2 x3 r j Y hY p))
  · exact (congrArg _ (ext3 rfl rfl rfl : idx_main_v42 (ix3 r j p) = ix3 r j ⟨p.val, by omega⟩)).trans (v41_at x0 x1 x2 x3 r j Y hY _)
  · exact (congrArg _ (ext3 rfl rfl (Nat.add_comm _ _) : idx_main_v43 (ix3 r j p) = ix3 r j ⟨p.val + 1, by omega⟩)).trans (v41_at x0 x1 x2 x3 r j Y hY _)

theorem v48_at (k : Fin 64) : val_main_v48 (F := Ideal) x0 x1 x2 x3 (ix3 r j k) = ((Spline.cdf Y (k.val + 1) : ℝ) : EReal) := by
  refine (runSum (val_main_v47 (F := Ideal) x0 x1 x2 x3) _ _ _ (Num.lZero.trans EReal.coe_zero) r j k
    (fun p => (((Spline.h Y p + Spline.h Y (p + 1)) / 2 * Spline.w Y p : ℝ) : EReal)) (v47_at x0 x1 x2 x3 r j Y hY)).trans ?_
  rw [Num.sum', Spline.cdf_ref]

theorem v53_at (k : Fin 64) : val_main_v53 (F := Ideal) x0 x1 x2 x3 (ix3 r j k) = ((Spline.loc Y (k.val + 1) : ℝ) : EReal) := by
  refine (runSum (val_main_v24 (F := Ideal) x0 x1 x2 x3) _ _ _ (Num.lZero.trans EReal.coe_zero) r j k
    (fun p => ((Spline.w Y p : ℝ) : EReal)) (v24_at x0 x1 x2 x3 r j Y hY)).trans ?_
  rw [Num.sum']; rfl

/-- The running areas, below the last. -/
theorem v52_at (p : Fin 65) (hp : p.val < 64) : val_main_v52 (F := Ideal) x0 x1 x2 x3 (ix3 r j p) = ((Spline.cdf Y p.val : ℝ) : EReal) := by
  refine (pad_low _ _ _ _ r j p).trans ?_
  split
  · rename_i h0
    refine Num.lZero.trans ?_
    rw [h0, Spline.cdf, Finset.sum_range_zero]
  · rename_i h0
    refine (scatter_slice scatter_S4096x128x64_S1_S4096x128_01_2_2_0 rfl rfl rfl rfl (fun _ b => b) (val_main_v48 (F := Ideal) x0 x1 x2 x3)
      (val_main_v49 (F := Ideal)) (val_main_v50 (F := Ideal)) 63#32 ⟨63, by decide⟩ rfl (fun i => val_main_v49_apply (F := Ideal) i) r j _).trans ?_
    rw [if_neg (fun e => by have : p.val - 1 = 63 := congrArg Fin.val e; omega)]
    refine (v48_at x0 x1 x2 x3 r j Y hY _).trans ?_
    rw [show (p.val - 1) + 1 = p.val from by omega]

/-- The bin edges, the last of them set to one. -/
theorem v57_at (p : Fin 65) : val_main_v57 (F := Ideal) x0 x1 x2 x3 (ix3 r j p) = (((if p.val < 64 then Spline.loc Y p.val else 1) : ℝ) : EReal) := by
  refine (pad_low _ _ _ _ r j p).trans ?_
  split
  · rename_i h0
    refine Num.lZero.trans ?_
    rw [h0, if_pos (by decide), Spline.loc, Finset.sum_range_zero]
  · rename_i h0
    refine (scatter_slice scatter_S4096x128x64_S1_S4096x128_01_2_2_0 rfl rfl rfl rfl (fun _ b => b) (val_main_v53 (F := Ideal) x0 x1 x2 x3)
      (val_main_v54 (F := Ideal)) (val_main_v55 (F := Ideal)) 63#32 ⟨63, by decide⟩ rfl (fun i => val_main_v54_apply (F := Ideal) i) r j _).trans ?_
    by_cases hp : p.val < 64
    · rw [if_neg (fun e => by have : p.val - 1 = 63 := congrArg Fin.val e; omega), if_pos hp]
      refine (v53_at x0 x1 x2 x3 r j Y hY _).trans ?_
      rw [show (p.val - 1) + 1 = p.val from by omega]
    · rw [if_pos (Fin.ext (show p.val - 1 = 63 by omega)), if_neg hp]
      exact (val_main_v55_apply (ix2 r j)).trans Num.lOne

theorem v60_at (p : Fin 65) : val_main_v60 (F := Ideal) x0 x1 x2 x3 (ix3 r j p) = ((Spline.edge Y p.val : ℝ) : EReal) := by
  refine (scatter_slice (α := Ideal .f32) scatter_S4096x128x65_S1_S4096x128_01_2_2_0 rfl rfl rfl rfl (FloatOps.addf (F := Ideal) (φ := .f32)) (val_main_v57 (F := Ideal) x0 x1 x2 x3)
    (val_main_v58 (F := Ideal)) (val_main_v59 (F := Ideal)) 64#32 ⟨64, by decide⟩ rfl (fun i => val_main_v58_apply (F := Ideal) i) r j p).trans ?_
  have h57 := v57_at x0 x1 x2 x3 r j Y hY p
  unfold Spline.edge
  by_cases hp : p.val < 64
  · rw [if_neg (fun e => by have : p.val = 64 := congrArg Fin.val e; omega), if_pos hp]
    rw [if_pos hp] at h57
    exact h57
  · rw [if_pos (Fin.ext (show p.val = 64 by omega)), if_neg hp]
    rw [if_neg hp] at h57
    exact sAdd h57 ((val_main_v59_apply (ix2 r j)).trans Num.lEps)

include hX

/-! ## The bin -/

theorem v63_at (p : Fin 65) : val_main_v63 (F := Ideal) x0 x1 x2 x3 (ix3 r j p) = 1#1 ↔ Spline.edge Y p.val ≤ X := by
  have h62 : val_main_v62 (F := Ideal) x1 (ix3 r j p) = (X : EReal) := by
    refine (val_main_v62_apply x1 _).trans ((val_main_v61_apply x1 _).trans (Eq.trans (congrArg _ ?_) hX))
    exact ext2 rfl rfl
  have e : val_main_v63 (F := Ideal) x0 x1 x2 x3 (ix3 r j p) = _ := (val_main_v63_apply x0 x1 x2 x3 _).trans
    ((congrArg₂ (fun u v : EReal => Ideal.cmp .oge u v) h62 (v60_at x0 x1 x2 x3 r j Y hY p)).trans (Num.oge' X _))
  rw [e]
  split
  · rename_i h; exact ⟨fun _ => h, fun _ => rfl⟩
  · rename_i h; exact ⟨fun e => absurd e (by decide), fun e => absurd e h⟩

theorem v68_at : val_main_v68 (F := Ideal) x0 x1 x2 x3 (ix2 r j) = BitVec.ofNat 32 (Spline.bin Y X) := by
  classical
  have h65 : val_main_v65 (F := Ideal) x0 x1 x2 x3 (ix2 r j) = BitVec.ofNat 32 (Nat.count (fun p => Spline.edge Y p ≤ X) 65) :=
    countLast _ _ _ _ _ rfl r j _ (v63_at x0 x1 x2 x3 r j Y X hY hX)
  have hc : Nat.count (fun p => Spline.edge Y p ≤ X) 65 ≤ 65 := Nat.count_le ..
  have h67 : val_main_v67 (F := Ideal) x0 x1 x2 x3 (ix2 r j) = IntOp.subi (BitVec.ofNat 32 (Nat.count (fun p => Spline.edge Y p ≤ X) 65)) 1#32 :=
    (val_main_v67_apply x0 x1 x2 x3 _).trans (congrArg₂ IntOp.subi h65 (val_main_v66_apply (ix2 r j)))
  have e : val_main_v68 (F := Ideal) x0 x1 x2 x3 (ix2 r j)
      = IntOp.minsi 63#32 (IntOp.maxsi 0#32 (IntOp.subi (BitVec.ofNat 32 (Nat.count (fun p => Spline.edge Y p ≤ X) 65)) 1#32)) :=
    (val_main_v68_apply x0 x1 x2 x3 _).trans (congrArg₂ IntOp.minsi ((val_main_call5_v4_apply (ix2 r j)).trans (val_main_call5_v3_apply _))
      ((val_main_call5_v2_apply x0 x1 x2 x3 _).trans (congrArg₂ IntOp.maxsi ((val_main_call5_v1_apply (ix2 r j)).trans (val_main_call5_v0_apply _)) h67)))
  refine (e.trans (Spl.clip_word ⟨Nat.count (fun p => Spline.edge Y p ≤ X) 65, by omega⟩)).trans ?_
  show BitVec.ofNat 32 (min (Nat.count (fun p => Spline.edge Y p ≤ X) 65 - 1) 63) = _
  rw [← Spline.count_edge]

theorem v69_at : val_main_v69 (F := Ideal) x0 x1 x2 x3 (ix3 (n0 := 4096) (n1 := 128) (n2 := 1) r j 0) = BitVec.ofNat 32 (Spline.bin Y X) := by
  refine (val_main_v69_apply x0 x1 x2 x3 _).trans (Eq.trans (congrArg _ ?_) (v68_at x0 x1 x2 x3 r j Y X hY hX))
  exact ext2 rfl rfl

theorem v79_at : val_main_v79 (F := Ideal) x0 x1 x2 x3 (ix3 (n0 := 4096) (n1 := 128) (n2 := 1) r j 0) = BitVec.ofNat 32 (Spline.bin Y X + 1) := by
  refine (val_main_v79_apply x0 x1 x2 x3 _).trans ((congrArg₂ IntOp.addi (v69_at x0 x1 x2 x3 r j Y X hY hX) (val_main_v78_apply _)).trans ?_)
  exact (BitVec.ofNat_add _ _).symm

/-! ## The takes -/

theorem v71_at : val_main_v71 (F := Ideal) x0 x1 x2 x3 (ix2 r j) = ((Spline.loc Y (Spline.bin Y X) : ℝ) : EReal) := by
  have hb := Spline.bin_le Y X
  have e : val_main_v71 (F := Ideal) x0 x1 x2 x3 = along65 (F := Ideal) (val_main_v57 (F := Ideal) x0 x1 x2 x3) (val_main_v69 (F := Ideal) x0 x1 x2 x3) := rfl
  rw [e, along65_at _ _ r j (Spline.bin Y X) (by omega) (v69_at x0 x1 x2 x3 r j Y X hY hX)]
  refine (v57_at x0 x1 x2 x3 r j Y hY _).trans ?_
  rw [if_pos (by show Spline.bin Y X < 64; omega)]

theorem v73_at : val_main_v73 (F := Ideal) x0 x1 x2 x3 (ix2 r j) = ((Spline.w Y (Spline.bin Y X) : ℝ) : EReal) := by
  have hb := Spline.bin_le Y X
  have e : val_main_v73 (F := Ideal) x0 x1 x2 x3 = along64 (F := Ideal) (val_main_v24 (F := Ideal) x0 x1 x2 x3) (val_main_v69 (F := Ideal) x0 x1 x2 x3) := rfl
  rw [e, along64_at _ _ r j (Spline.bin Y X) (by omega) (v69_at x0 x1 x2 x3 r j Y X hY hX)]
  exact v24_at x0 x1 x2 x3 r j Y hY _

theorem v75_at : val_main_v75 (F := Ideal) x0 x1 x2 x3 (ix2 r j) = ((Spline.cdf Y (Spline.bin Y X) : ℝ) : EReal) := by
  have hb := Spline.bin_le Y X
  have e : val_main_v75 (F := Ideal) x0 x1 x2 x3 = along65 (F := Ideal) (val_main_v52 (F := Ideal) x0 x1 x2 x3) (val_main_v69 (F := Ideal) x0 x1 x2 x3) := rfl
  rw [e, along65_at _ _ r j (Spline.bin Y X) (by omega) (v69_at x0 x1 x2 x3 r j Y X hY hX)]
  exact v52_at x0 x1 x2 x3 r j Y hY _ (by show Spline.bin Y X < 64; omega)

theorem v77_at : val_main_v77 (F := Ideal) x0 x1 x2 x3 (ix2 r j) = ((Spline.h Y (Spline.bin Y X) : ℝ) : EReal) := by
  have hb := Spline.bin_le Y X
  have e : val_main_v77 (F := Ideal) x0 x1 x2 x3 = along65 (F := Ideal) (val_main_v41 (F := Ideal) x0 x1 x2 x3) (val_main_v69 (F := Ideal) x0 x1 x2 x3) := rfl
  rw [e, along65_at _ _ r j (Spline.bin Y X) (by omega) (v69_at x0 x1 x2 x3 r j Y X hY hX)]
  exact v41_at x0 x1 x2 x3 r j Y hY _

theorem v81_at : val_main_v81 (F := Ideal) x0 x1 x2 x3 (ix2 r j) = ((Spline.h Y (Spline.bin Y X + 1) : ℝ) : EReal) := by
  have hb := Spline.bin_le Y X
  have e : val_main_v81 (F := Ideal) x0 x1 x2 x3 = along65 (F := Ideal) (val_main_v41 (F := Ideal) x0 x1 x2 x3) (val_main_v79 (F := Ideal) x0 x1 x2 x3) := rfl
  rw [e, along65_at _ _ r j (Spline.bin Y X + 1) (by omega) (v79_at x0 x1 x2 x3 r j Y X hY hX)]
  exact v41_at x0 x1 x2 x3 r j Y hY _

/-! ## The spline's value and slope -/

theorem v88_at : val_main_v88 (F := Ideal) x0 x1 x2 x3 (ix2 r j) = ((Spline.alpha Y X : ℝ) : EReal) :=
  (val_main_v88_apply x0 x1 x2 x3 _).trans (sDiv ((val_main_v87_apply x0 x1 x2 x3 _).trans (sSub hX (v71_at x0 x1 x2 x3 r j Y X hY hX)))
    (v73_at x0 x1 x2 x3 r j Y X hY hX) (Spline.w_pos Y _).ne')

theorem v93_at : val_main_v93 (F := Ideal) x0 x1 x2 x3 (ix2 r j) = ((Spline.out Y X : ℝ) : EReal) := by
  have h73 := v73_at x0 x1 x2 x3 r j Y X hY hX
  have h77 := v77_at x0 x1 x2 x3 r j Y X hY hX
  have h88 := v88_at x0 x1 x2 x3 r j Y X hY hX
  have h82 := (val_main_v82_apply x0 x1 x2 x3 (ix2 r j)).trans (sSub (v81_at x0 x1 x2 x3 r j Y X hY hX) h77)
  have h85 := (val_main_v85_apply x0 x1 x2 x3 (ix2 r j)).trans (sMul ((val_main_v84_apply x0 x1 x2 x3 _).trans (sMul ((val_main_v83_apply (ix2 r j)).trans Num.lHalf) h82)) h73)
  have h90 := (val_main_v90_apply x0 x1 x2 x3 (ix2 r j)).trans (sMul h85 ((val_main_v89_apply x0 x1 x2 x3 _).trans (sMul h88 h88)))
  have h91 := (val_main_v91_apply x0 x1 x2 x3 (ix2 r j)).trans (sMul ((val_main_v86_apply x0 x1 x2 x3 _).trans (sMul h77 h73)) h88)
  refine (val_main_v93_apply x0 x1 x2 x3 _).trans ((sAdd ((val_main_v92_apply x0 x1 x2 x3 _).trans (sAdd h90 h91)) (v75_at x0 x1 x2 x3 r j Y X hY hX)).trans ?_)
  rw [← Spline.out_ref]; rfl

theorem v94_at : val_main_v94 (F := Ideal) x0 x1 x2 x3 (ix2 r j) = ((min 1 (max 0 (Spline.out Y X)) : ℝ) : EReal) :=
  (val_main_v94_apply x0 x1 x2 x3 _).trans (sMin ((val_main_call11_v4_apply (ix2 r j)).trans ((val_main_call11_v3_apply _).trans Num.lOne))
    ((val_main_call11_v2_apply x0 x1 x2 x3 _).trans (sMax ((val_main_call11_v1_apply (ix2 r j)).trans ((val_main_call11_v0_apply _).trans Num.lZero))
      (v93_at x0 x1 x2 x3 r j Y X hY hX))))

theorem v98_at : val_main_v98 (F := Ideal) x0 x1 x2 x3 (ix2 r j) = Ideal.log ((Spline.slope Y X : ℝ) : EReal) := by
  have h77 := v77_at x0 x1 x2 x3 r j Y X hY hX
  have h97 := (val_main_v97_apply x0 x1 x2 x3 (ix2 r j)).trans (sAdd ((val_main_v96_apply x0 x1 x2 x3 _).trans
    (sMul (v88_at x0 x1 x2 x3 r j Y X hY hX) ((val_main_v95_apply x0 x1 x2 x3 _).trans (sSub (v81_at x0 x1 x2 x3 r j Y X hY hX) h77)))) h77)
  exact (val_main_v98_apply x0 x1 x2 x3 _).trans (sLog h97)

end Cert.ReferenceIdeal.Spl

end
-- ==== Proof.RefEnd.lean ====
/- The reference's two results at an element. -/
module

public import proofs.«01_k».proof.Proof.RefVal
public import proofs.«01_k».proof.Proof.LinVal
public import Idealize.ShloMosaic.Lib.Pipeline.Value

@[expose] public section

set_option maxRecDepth 16384

noncomputable section

namespace Cert.ReferenceIdeal.Spl

open Idealize.ShloMosaic Idealize.ShloMosaic.ValueIdx
open Cert.ReferenceIdeal Cert.ReferenceIdeal.Gen Cert.ReferenceIdeal.Read Cert.ReferenceIdeal.Ops
open Cert.Lin (IsReal)

variable (x0 : (⟨S4096x64, .f32⟩ : BufTy).Contents (Elt Ideal)) (x1 : (⟨S4096x512, .f32⟩ : BufTy).Contents (Elt Ideal))
  (x2 : (⟨S448x16512, .f32⟩ : BufTy).Contents (Elt Ideal)) (x3 : (⟨S16512, .f32⟩ : BufTy).Contents (Elt Ideal))

theorem v2_at (r : Fin 4096) (k : Fin 448) : val_main_v2 (F := Ideal) x0 x1 (ix2 r k) = Lin.row x0 x1 r k := by
  have hk := k.isLt
  unfold val_main_v2 Lin.row
  by_cases h : k.val < 384
  · rw [dif_pos h]
    refine (concatenate_pair_apply_left (t := S4096x448) (s₁ := S4096x384) (s₂ := S4096x64) 1 _ _ _ _ rfl (ix2 (n0 := 4096) (n1 := 384) r ⟨k.val, h⟩) fun a => ?_).trans ?_
    · match a with
      | ⟨0, _⟩ => rfl
      | ⟨1, _⟩ => rfl
    · refine (val_main_v1_apply x1 _).trans (congrArg x1 ?_)
      exact ext2 rfl rfl
  · rw [dif_neg h]
    refine concatenate_pair_apply_right (t := S4096x448) (s₁ := S4096x384) (s₂ := S4096x64) 1 _ _ _ _ rfl rfl (ix2 (n0 := 4096) (n1 := 64) r ⟨k.val - 384, by omega⟩) (fun a ha => ?_) ?_
    · match a with
      | ⟨0, _⟩ => rfl
      | ⟨1, _⟩ => exact absurd rfl ha
    · show k.val - 384 + 384 = k.val
      omega

theorem v7_at (r : Fin 4096) (j : Fin 128) (p : Fin 129) :
    val_main_v7 (F := Ideal) x0 x1 x2 x3 (ix3 r j p) = Lin.lin x0 x1 x2 x3 r (Lin.par j p.val p.isLt) := by
  have hr := r.isLt
  have hj := j.isLt
  have hp := p.isLt
  have e : idx_main_v7 (ix3 r j p) = ix2 r (Lin.par j p.val p.isLt) := by
    refine ext2 ?_ ?_
    · show ((r.val * 128 + j.val) * 129 + p.val) / 16512 = r.val
      omega
    · show ((r.val * 128 + j.val) * 129 + p.val) % 16512 = 129 * j.val + p.val
      omega
  rw [val_main_v7_apply, e, val_main_v6_apply]
  refine congrArg₂ (fun u v : EReal => u + v) ((val_main_v3_apply x0 x1 x2 _).trans ?_)
    ((val_main_v5_apply x3 _).trans ((val_main_v4_apply x3 _).trans (congrArg x3 ?_)))
  · refine Finset.sum_congr rfl fun k _ => congrArg₂ (fun u v : EReal => u * v) (Eq.trans (congrArg _ ?_) (v2_at x0 x1 r k)) (congrArg x2 ?_)
    · exact ext2 rfl rfl
    · exact ext2 rfl rfl
  · funext a
    match a with
    | ⟨0, _⟩ => rfl

section
variable (hc : ∀ i, IsReal (x0 i)) (hz : ∀ i, IsReal (x1 i)) (hW : ∀ i, IsReal (x2 i)) (hb : ∀ i, IsReal (x3 i))

include hc hz hW hb in
theorem v7_real (r : Fin 4096) (j : Fin 128) (p : Fin 129) :
    val_main_v7 (F := Ideal) x0 x1 x2 x3 (ix3 r j p) = ((Lin.Y x0 x1 x2 x3 r j p.val : ℝ) : EReal) :=
  (v7_at x0 x1 x2 x3 r j p).trans (Lin.Y_eq x0 x1 x2 x3 hc hz hW hb r j p.val p.isLt)

include hz in
theorem v0_real (r : Fin 4096) (j : Fin 128) : val_main_v0 (F := Ideal) x1 (ix2 r j) = ((Lin.X x1 r j : ℝ) : EReal) := by
  refine (val_main_v0_apply x1 _).trans (Eq.trans (congrArg x1 ?_) (Lin.X_eq x1 hz r j))
  exact ext2 rfl rfl

include hc hz hW hb in
theorem v99_at (r : Fin 4096) (k : Fin 512) : val_main_v99 (F := Ideal) x0 x1 x2 x3 (ix2 r k) = Lin.outX x0 x1 x2 x3 r k := by
  have hk := k.isLt
  unfold val_main_v99 Lin.outX
  by_cases h : k.val < 384
  · rw [dif_pos h]
    refine (concatenate_pair_apply_left (t := S4096x512) (s₁ := S4096x384) (s₂ := S4096x128) 1 _ _ _ _ rfl (ix2 (n0 := 4096) (n1 := 384) r ⟨k.val, h⟩) fun a => ?_).trans ?_
    · match a with
      | ⟨0, _⟩ => rfl
      | ⟨1, _⟩ => rfl
    · refine (val_main_v1_apply x1 _).trans (congrArg x1 ?_)
      exact ext2 rfl rfl
  · rw [dif_neg h]
    refine (concatenate_pair_apply_right (t := S4096x512) (s₁ := S4096x384) (s₂ := S4096x128) 1 _ _ _ _ rfl rfl (ix2 (n0 := 4096) (n1 := 128) r ⟨k.val - 384, by omega⟩) (fun a ha => ?_) ?_).trans ?_
    · match a with
      | ⟨0, _⟩ => rfl
      | ⟨1, _⟩ => exact absurd rfl ha
    · show k.val - 384 + 384 = k.val
      omega
    · exact v94_at x0 x1 x2 x3 r _ _ _ (v7_real x0 x1 x2 x3 hc hz hW hb r _) (v0_real x1 hz r _)

include hc hz hW hb in
theorem v100_at (r : Fin 4096) : val_main_v100 (F := Ideal) x0 x1 x2 x3 (ix1 r) = Lin.outL x0 x1 x2 x3 r := by
  refine (val_main_v100_apply x0 x1 x2 x3 _).trans ?_
  rw [show (val_main_cst_25 (F := Ideal)) (Shape.Idx.first h_S_) = (0 : EReal) from Num.lZero.trans EReal.coe_zero, zero_add]
  refine Finset.sum_congr rfl fun j _ => Eq.trans (congrArg _ ?_)
    (v98_at x0 x1 x2 x3 r j _ _ (v7_real x0 x1 x2 x3 hc hz hW hb r j) (v0_real x1 hz r j))
  exact ext2 rfl rfl
end

end Cert.ReferenceIdeal.Spl

end
-- ==== Proof.Algebraic.lean ====
/- The kernel and the reference end with the same two arrays, the arguments' entries being finite. -/
module

public import proofs.«01_k».proof.Defs
public import proofs.«01_k».proof.Proof.Gen.Pre_finite_inputs
public import proofs.«01_k».proof.Proof.KerEnd
public import proofs.«01_k».proof.Proof.RefEnd

@[expose] public section

set_option maxRecDepth 16384

noncomputable section

namespace Cert.Proof

open Idealize.ShloMosaic Idealize.SL.Sem
open Idealize.ShloMosaic.TcCoe
open Cert.Lin (IsReal)

/-- An extended real whose absolute value is below infinity is a real number. -/
theorem isReal_of_olt (x : EReal) (h : Ideal.cmp .olt (max x (-x)) (Ideal.ofBits .f32 0x7F800000#32) = 1#1) : IsReal x := by
  rw [Num.lInf] at h
  have hlt : max x (-x) < ⊤ := by
    by_contra hn
    unfold Ideal.cmp at h
    simp [hn] at h
  induction x using EReal.rec with
  | bot => simp at hlt
  | coe s => exact ⟨s, rfl⟩
  | top => simp at hlt

/-- What the precondition says, read at every entry. -/
theorem finite_at (m : (ℓ : Loc Cert.KernelIdeal.nD Cert.KernelIdeal.τ Cert.KernelIdeal.sig) → Buf (Elt Ideal) ℓ)
    (h : Pre_KernelIdeal_finite_inputs m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i)) := by
  obtain ⟨h0, h1, h2, h3⟩ := h c
  exact ⟨fun i => isReal_of_olt _ (congrFun h0 i), fun i => isReal_of_olt _ (congrFun h1 i),
    fun i => isReal_of_olt _ (congrFun h2 i), fun i => isReal_of_olt _ (congrFun h3 i)⟩

variable (m : (ℓ : Loc Cert.KernelIdeal.nD Cert.KernelIdeal.τ Cert.KernelIdeal.sig) → Buf (Elt Ideal) ℓ)

/-- The first result. -/
def resX (c : Dev Cert.KernelIdeal.nD) : Buf (Elt Ideal) ((c.tc : Thread Cert.KernelIdeal.nD Cert.KernelIdeal.τ).loc Cert.KernelIdeal.main_v3_0) :=
  fun i : Cert.KernelIdeal.S4096x512.Idx => Lin.outX (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (i 0) (i 1)
/-- The second. -/
def resL (c : Dev Cert.KernelIdeal.nD) : Buf (Elt Ideal) ((c.tc : Thread Cert.KernelIdeal.nD Cert.KernelIdeal.τ).loc Cert.KernelIdeal.main_v4) :=
  fun i : Cert.KernelIdeal.S4096.Idx => Lin.outL (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (i 0)

theorem kernel_X (ρ : Dev Cert.KernelIdeal.nD → PrngReg) (h : Pre_KernelIdeal_finite_inputs m) (c : Dev Cert.KernelIdeal.nD) :
    Cert.KernelIdeal.Tile.W5 m ρ c (Proc.devRef .tc Cert.KernelIdeal.main_v3_0) = resX m c := by
  obtain ⟨h0, h1, h2, h3⟩ := finite_at m h c
  refine (Cert.KernelIdeal.Tile.W5_v3_0 m ρ c).trans ?_
  refine funext fun i : Cert.KernelIdeal.S4096x512.Idx => ?_
  rw [ValueIdx.eq_ix2 i]
  exact Cert.KernelIdeal.Tile.arrX_real _ _ _ _ h0 h1 h2 h3 (i 0) (i 1)

theorem kernel_L (ρ : Dev Cert.KernelIdeal.nD → PrngReg) (h : Pre_KernelIdeal_finite_inputs m) (c : Dev Cert.KernelIdeal.nD) :
    Cert.KernelIdeal.Tile.W5 m ρ c (Proc.devRef .tc Cert.KernelIdeal.main_v4) = resL m c := by
  obtain ⟨h0, h1, h2, h3⟩ := finite_at m h c
  refine (Cert.KernelIdeal.Tile.W5_v4 m ρ c).trans ?_
  exact funext fun i : Cert.KernelIdeal.S4096.Idx => Cert.KernelIdeal.Tile.arrL_real _ _ _ _ h0 h1 h2 h3 (i 0)

section
variable (x0 : Vec Ideal Cert.ReferenceIdeal.S4096x64 .f32) (x1 : Vec Ideal Cert.ReferenceIdeal.S4096x512 .f32)
  (x2 : Vec Ideal Cert.ReferenceIdeal.S448x16512 .f32) (x3 : Vec Ideal Cert.ReferenceIdeal.S16512 .f32)
  (h0 : ∀ i, IsReal (x0 i)) (h1 : ∀ i, IsReal (x1 i)) (h2 : ∀ i, IsReal (x2 i)) (h3 : ∀ i, IsReal (x3 i))

include h0 h1 h2 h3 in
theorem reference_X : Cert.ReferenceIdeal.Read.val_main_v99 (F := Ideal) x0 x1 x2 x3
    = fun i : Cert.ReferenceIdeal.S4096x512.Idx => Lin.outX x0 x1 x2 x3 (i 0) (i 1) := by
  refine funext fun i : Cert.ReferenceIdeal.S4096x512.Idx => ?_
  rw [ValueIdx.eq_ix2 i]
  exact Cert.ReferenceIdeal.Spl.v99_at x0 x1 x2 x3 h0 h1 h2 h3 (i 0) (i 1)

include h0 h1 h2 h3 in
theorem reference_L : Cert.ReferenceIdeal.Read.val_main_v100 (F := Ideal) x0 x1 x2 x3
    = fun i : Cert.ReferenceIdeal.S4096.Idx => Lin.outL x0 x1 x2 x3 (i 0) := by
  refine funext fun i : Cert.ReferenceIdeal.S4096.Idx => ?_
  rw [ValueIdx.eq_ix1 i]
  exact Cert.ReferenceIdeal.Spl.v100_at x0 x1 x2 x3 h0 h1 h2 h3 (i 0)
end

theorem algebraic : algebraic_KernelIdeal_ReferenceIdeal_pre_finite_inputs := by
  intro m g m' g' hpre hag
  refine ⟨resX m, resL m, ?_, ?_⟩
  · refine (θ_run Cert.KernelIdeal.defs _ _).mono (fun r h c => ?_) (Cert.KernelIdeal.Tile.run_main m g)
    exact ⟨(h.1 c _ (Cert.KernelIdeal.Tile.mem_uc Cert.KernelIdeal.main_v3_0 (by decide))).trans (kernel_X m g hpre c),
      (h.1 c _ (Cert.KernelIdeal.Tile.mem_uc Cert.KernelIdeal.main_v4 (by decide))).trans (kernel_L m g hpre c),
      (h.1 c _ (Cert.KernelIdeal.Tile.mem_uc Cert.KernelIdeal.main_arg0 (by decide))).trans (Cert.KernelIdeal.Tile.W5_main_arg0 m g c),
      (h.1 c _ (Cert.KernelIdeal.Tile.mem_uc Cert.KernelIdeal.main_arg1 (by decide))).trans (Cert.KernelIdeal.Tile.W5_main_arg1 m g c),
      (h.1 c _ (Cert.KernelIdeal.Tile.mem_uc Cert.KernelIdeal.main_arg2 (by decide))).trans (Cert.KernelIdeal.Tile.W5_main_arg2 m g c),
      (h.1 c _ (Cert.KernelIdeal.Tile.mem_uc Cert.KernelIdeal.main_arg3 (by decide))).trans (Cert.KernelIdeal.Tile.W5_main_arg3 m g c),
      (h.1 c _ (Cert.KernelIdeal.Tile.mem_uc Cert.KernelIdeal.main_arg4 (by decide))).trans (Cert.KernelIdeal.Tile.W5_main_arg4 m g c)⟩
  · refine (θ_run Cert.ReferenceIdeal.defs _ _).mono (fun r h c => ?_) (Cert.ReferenceIdeal.Value.run (F := Ideal) m' g')
    obtain ⟨a0, a1, a2, a3, _⟩ := hag c
    obtain ⟨h0, h1, h2, h3⟩ := finite_at m hpre c
    have eX : Cert.ReferenceIdeal.Read.val_main_v99 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = resX m c := by
      rw [a0, a1, a2, a3]
      exact reference_X _ _ _ _ h0 h1 h2 h3
    have eL : Cert.ReferenceIdeal.Read.val_main_v100 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = resL m c := by
      rw [a0, a1, a2, a3]
      exact reference_L _ _ _ _ h0 h1 h2 h3
    exact ⟨(h c).1.trans ((Cert.ReferenceIdeal.Read.val_main_v99_eq (StableHlo.launchContents m' c)).trans eX),
      (h c).2.1.trans ((Cert.ReferenceIdeal.Read.val_main_v100_eq (StableHlo.launchContents m' c)).trans eL), (h c).2.2⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite_inputs
public import proofs.«01_k».proof.Proof.Gen.ReferenceIdeal.Run
public import proofs.«01_k».proof.Proof.Gen.ReferenceIdeal.Read
public import proofs.«01_k».proof.Proof.Frames
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Tile.frame m ρ, fun m ρ _ => Cert.KernelIdeal.Tile.frame m ρ, fun m ρ _ => Cert.KernelIdeal.Tile.frame m ρ,
  fun m ρ _ => frame_reference m ρ, fun m ρ _ => frame_reference m ρ, trivial, algebraic⟩

end Cert.Proof

end
